-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_temp" .f32 0x3FB6DB6E#32 ((16777216 / 11744051 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S1024x1 : Shape := ⟨2, ![1024, 1]⟩
abbrev S1x1 : Shape := ⟨2, ![1, 1]⟩
abbrev S_ : Shape := ⟨0, ![]⟩
abbrev S32x1 : Shape := ⟨2, ![32, 1]⟩
abbrev S2x32x100000 : Shape := ⟨3, ![2, 32, 100000]⟩
abbrev S2 : Shape := ⟨1, ![2]⟩
abbrev S1 : Shape := ⟨1, ![1]⟩
abbrev S1x32x100000 : Shape := ⟨3, ![1, 32, 100000]⟩
abbrev S32x100000 : Shape := ⟨2, ![32, 100000]⟩
abbrev S32 : Shape := ⟨1, ![32]⟩
abbrev S1x1024x1 : Shape := ⟨3, ![1, 1024, 1]⟩
abbrev S1x1x1 : Shape := ⟨3, ![1, 1, 1]⟩

abbrev nBuf : Space → Nat
  | .hbm => 7
  | .vmem => 9
  | .smem => 1
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x1, .i32⟩
  | .hbm, ⟨3, _⟩ => ⟨S1024x1, .f32⟩
  | .hbm, ⟨4, _⟩ => ⟨S1024x1, .f32⟩
  | .hbm, ⟨5, _⟩ => ⟨S1x1, .f32⟩
  | .hbm, ⟨6, _⟩ => ⟨S_, .f32⟩
  | .local _ .vmem, ⟨0, _⟩ => ⟨S32x1, .i32⟩
  | .local _ .vmem, ⟨1, _⟩ => ⟨S32x1, .i32⟩
  | .local _ .vmem, ⟨2, _⟩ => ⟨S32x1, .f32⟩
  | .local _ .vmem, ⟨3, _⟩ => ⟨S32x1, .f32⟩
  | .local _ .vmem, ⟨4, _⟩ => ⟨S32x1, .f32⟩
  | .local _ .vmem, ⟨5, _⟩ => ⟨S32x1, .f32⟩
  | .local _ .vmem, ⟨6, _⟩ => ⟨S2x32x100000, .f32⟩
  | .local _ .vmem, ⟨7, _⟩ => ⟨S1024x1, .f32⟩
  | .local _ .vmem, ⟨8, _⟩ => ⟨S1024x1, .f32⟩
  | .local _ .smem, ⟨0, _⟩ => ⟨S1x1, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v3 : BitVec 1 := Scalar.cmpi .slt arg0 c31_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  let c1_i32_33 : BitVec 32 := 1#32
  let v80 : BitVec 32 := Scalar.addi arg0 c1_i32_33
  let c2_i32_34 : BitVec 32 := 2#32
  let c0_i32_35 : BitVec 32 := 0#32
  let v81 : BitVec 1 := Scalar.cmpi .eq c2_i32_34 c0_i32_35
  let c1_i32_36 : BitVec 32 := 1#32
  let v82 : BitVec 32 := Scalar.select v81 c1_i32_36 c2_i32_34
  let v83 : BitVec 32 := Scalar.remsi v80 v82
  let c0_i32_38 : BitVec 32 := 0#32
  let v85 : BitVec 1 := Scalar.cmpi .slt v83 c0_i32_38
  let c0_i32_39 : BitVec 32 := 0#32
  let v86 : BitVec 1 := Scalar.cmpi .slt v82 c0_i32_39
  let v87 : BitVec 1 := Scalar.xori v85 v86
  let c0_i32_37 : BitVec 32 := 0#32
  let v84 : BitVec 1 := Scalar.cmpi .ne v83 c0_i32_37
  let v88 : BitVec 1 := Scalar.andi v87 v84
  let v89 : BitVec 32 := Scalar.addi v83 v82
  let v90 : BitVec 32 := Scalar.select v88 v89 v83
  ![v90.toNat]
def k0_off2 (i : grid0.Coords) : Fin 3 → Nat :=
  let arg0 : BitVec 32 := BitVec.ofNat 32 (i 0).val
  let c1_i32_33 : BitVec 32 := 1#32
  let v80 : BitVec 32 := Scalar.addi arg0 c1_i32_33
  let c2_i32_34 : BitVec 32 := 2#32
  let c0_i32_35 : BitVec 32 := 0#32
  let v81 : BitVec 1 := Scalar.cmpi .eq c2_i32_34 c0_i32_35
  let c1_i32_36 : BitVec 32 := 1#32
  let v82 : BitVec 32 := Scalar.select v81 c1_i32_36 c2_i32_34
  let v83 : BitVec 32 := Scalar.remsi v80 v82
  let c0_i32_38 : BitVec 32 := 0#32
  let v85 : BitVec 1 := Scalar.cmpi .slt v83 c0_i32_38
  let c0_i32_39 : BitVec 32 := 0#32
  let v86 : BitVec 1 := Scalar.cmpi .slt v82 c0_i32_39
  let v87 : BitVec 1 := Scalar.xori v85 v86
  let c0_i32_37 : BitVec 32 := 0#32
  let v84 : BitVec 1 := Scalar.cmpi .ne v83 c0_i32_37
  let v88 : BitVec 1 := Scalar.andi v87 v84
  let v89 : BitVec 32 := Scalar.addi v83 v82
  let v90 : BitVec 32 := Scalar.select v88 v89 v83
  let c0_i32_41 : BitVec 32 := 0#32
  let c0_i32_42 : BitVec 32 := 0#32
  ![v90.toNat, 0, 0]
def k0_off3 (i : grid0.Coords) : Fin 2 → Nat :=
  let arg0 : BitVec 32 := BitVec.ofNat 32 (i 0).val
  let c1_i32_32 : BitVec 32 := 1#32
  let v79 : BitVec 32 := Scalar.addi arg0 c1_i32_32
  let c32_i32_40 : BitVec 32 := 32#32
  let v91 : BitVec 32 := Scalar.muli v79 c32_i32_40
  let c0_i32_43 : BitVec 32 := 0#32
  ![v91.toNat, 0]
def k0_off4 (i : grid0.Coords) : Fin 1 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  ![v15.toNat]
def k0_off5 (i : grid0.Coords) : Fin 3 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let c0_i32_7 : BitVec 32 := 0#32
  ![v15.toNat, 0, 0]
def k0_off6 (i : grid0.Coords) : Fin 2 → Nat :=
  let arg0 : BitVec 32 := BitVec.ofNat 32 (i 0).val
  let c32_i32 : BitVec 32 := 32#32
  let v16 : BitVec 32 := Scalar.muli arg0 c32_i32
  let c0_i32_8 : BitVec 32 := 0#32
  ![v16.toNat, 0]
def k0_off7 (i : grid0.Coords) : Fin 3 → Nat :=
  let arg0 : BitVec 32 := BitVec.ofNat 32 (i 0).val
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi arg0 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v32 : Index := Scalar.indexCast v31
  let c0 : Index := 0#32
  let c0_15 : Index := 0#32
  ![v32.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S1024x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== KernelIdeal.lean ====
variable {F : FTy → Type} [FloatOps F] [Named F]
def κ : String → Option EReal := fun
  | "inv_temp" => some ((16777216 / 11744051 : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S32x100000 : Shape := ⟨2, ![32, 100000]⟩

abbrev nBuf : Space → Nat
  | .hbm => 130
  | .vmem => 2
  | .smem => 0
  | _ => 0

abbrev hbmTy0_0 (i : Nat) : BufTy := match i % 128 with
  | 0 => ⟨S1024x100000, .f32⟩
  | 1 => ⟨S1024, .i32⟩
  | 2 => ⟨S_, .f32⟩
  | 3 => ⟨S1024, .f32⟩
  | 4 => ⟨S_, .f32⟩
  | 5 => ⟨S1024, .f32⟩
  | 6 => ⟨S1024, .f32⟩
  | 7 => ⟨S1024x1, .f32⟩
  | 8 => ⟨S1024x100000, .f32⟩
  | 9 => ⟨S1024x100000, .f32⟩
  | 10 => ⟨S1024x100000, .f32⟩
  | 11 => ⟨S_, .f32⟩
  | 12 => ⟨S1024, .f32⟩
  | 13 => ⟨S1024x1, .f32⟩
  | 14 => ⟨S1024x1, .f32⟩
  | 15 => ⟨S1024x100000, .f32⟩
  | 16 => ⟨S1024x100000, .f32⟩
  | 17 => ⟨S1024x1, .i32⟩
  | 18 => ⟨S_, .i32⟩
  | 19 => ⟨S1024x1, .i32⟩
  | 20 => ⟨S1024x1, .i1⟩
  | 21 => ⟨S_, .i32⟩
  | 22 => ⟨S1024x1, .i32⟩
  | 23 => ⟨S1024x1, .i32⟩
  | 24 => ⟨S1024x1, .i32⟩
  | 25 => ⟨S1024x1x1, .i32⟩
  | 26 => ⟨S1, .i32⟩
  | 27 => ⟨S_, .i32⟩
  | 28 => ⟨S1024x1x1, .i32⟩
  | 29 => ⟨S1024x1x1, .i1⟩
  | 30 => ⟨S1x1x1, .i32⟩
  | 31 => ⟨S1024x1x1, .i32⟩
  | 32 => ⟨S1024x1x1, .i1⟩
  | 33 => ⟨S1024x1x1, .i1⟩
  | 34 => ⟨S_, .i1⟩
  | 35 => ⟨S1024x1, .i1⟩
  | 36 => ⟨S1024x1, .f32⟩
  | 37 => ⟨S_, .f32⟩
  | 38 => ⟨S1024x1, .f32⟩
  | 39 => ⟨S1024x1, .f32⟩
  | 40 => ⟨S1024, .f32⟩
  | 41 => ⟨S_, .f32⟩
  | 42 => ⟨S_, .f32⟩
  | 43 => ⟨S_, .f32⟩
  | 44 => ⟨S_, .f32⟩
  | 45 => ⟨S_, .f32⟩
  | 46 => ⟨S1024x100000, .i32⟩
  | 47 => ⟨S_, .i32⟩
  | 48 => ⟨S1024x100000, .i32⟩
  | 49 => ⟨S1024x100000, .i32⟩
  | 50 => ⟨S1024x100000, .f32⟩
  | 51 => ⟨S_, .f32⟩
  | 52 => ⟨S1024x100000, .f32⟩
  | 53 => ⟨S1024x100000, .f32⟩
  | 54 => ⟨S_, .f32⟩
  | 55 => ⟨S1024x100000, .f32⟩
  | 56 => ⟨S1024x100000, .f32⟩
  | 57 => ⟨S_, .f32⟩
  | 58 => ⟨S1024x100000, .f32⟩
  | 59 => ⟨S1024x100000, .f32⟩
  | 60 => ⟨S1024x100000, .f32⟩
  | 61 => ⟨S1024x100000, .f32⟩
  | 62 => ⟨S1024x100000, .f32⟩
  | 63 => ⟨S1024x100000, .f32⟩
  | 64 => ⟨S1024x100000, .f32⟩
  | 65 => ⟨S_, .f32⟩
  | 66 => ⟨S1024, .f32⟩
  | 67 => ⟨S1024x1, .f32⟩
  | 68 => ⟨S1024x100000, .f32⟩
  | 69 => ⟨S1024x100000, .i1⟩
  | 70 => ⟨S_, .f32⟩
  | 71 => ⟨S_, .f32⟩
  | 72 => ⟨S1024x100000, .f32⟩
  | 73 => ⟨S1024x100000, .f32⟩
  | 74 => ⟨S1024x100000, .i32⟩
  | 75 => ⟨S_, .f32⟩
  | 76 => ⟨S_, .i32⟩
  | 77 => ⟨S1024, .f32⟩
  | 78 => ⟨S1024, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i32⟩
  | 86 => ⟨S1024x1, .i32⟩
  | 87 => ⟨S1024x1x1, .i32⟩
  | 88 => ⟨S1, .i32⟩
  | 89 => ⟨S_, .i32⟩
  | 90 => ⟨S1024x1x1, .i32⟩
  | 91 => ⟨S1024x1x1, .i1⟩
  | 92 => ⟨S1x1x1, .i32⟩
  | 93 => ⟨S1024x1x1, .i32⟩
  | 94 => ⟨S1024x1x1, .i1⟩
  | 95 => ⟨S1024x1x1, .i1⟩
  | 96 => ⟨S_, .i1⟩
  | 97 => ⟨S1024x1, .i1⟩
  | 98 => ⟨S1024x1, .f32⟩
  | 99 => ⟨S_, .f32⟩
  | 100 => ⟨S1024x1, .f32⟩
  | 101 => ⟨S1024x1, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S_, .f32⟩
  | 115 => ⟨S1024, .f32⟩
  | 116 => ⟨S1024, .f32⟩
  | 117 => ⟨S_, .f32⟩
  | 118 => ⟨S1024, .f32⟩
  | 119 => ⟨S1024, .f32⟩
  | 120 => ⟨S1024, .f32⟩
  | 121 => ⟨S_, .f32⟩
  | 122 => ⟨S1024, .f32⟩
  | 123 => ⟨S1024, .f32⟩
  | 124 => ⟨S1024, .f32⟩
  | 125 => ⟨S1024, .f32⟩
  | 126 => ⟨S_, .f32⟩
  | 127 => ⟨S_, .f32⟩
  | _ => ⟨S1024x100000, .f32⟩

abbrev hbmTy0_1 (i : Nat) : BufTy := match i % 128 with
  | 0 => ⟨S_, .f32⟩
  | 1 => ⟨S_, .f32⟩
  | _ => ⟨S1024x100000, .f32⟩

abbrev hbmTy (i : Nat) : BufTy := match i / 128 with
  | 0 => hbmTy0_0 i
  | 1 => hbmTy0_1 i
  | _ => ⟨S1024x100000, .f32⟩

abbrev bufTy : (tb : Table) → Fin (tcTables nBuf tb) → BufTy
  | .hbm, ⟨i, _⟩ => hbmTy i
  | .local _ .vmem, ⟨0, _⟩ => ⟨S32x100000, .i32⟩
  | .local _ .vmem, ⟨1, _⟩ => ⟨S32x100000, .i32⟩
  | _, _ => ⟨S1024x100000, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_cst_0 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_c : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_1 : Ref sig .tc := ⟨.hbm, 51, rfl⟩
abbrev main_v11 : Ref sig .tc := ⟨.hbm, 52, rfl⟩
abbrev main_v12 : Ref sig .tc := ⟨.hbm, 53, rfl⟩
abbrev main_cst_2 : Ref sig .tc := ⟨.hbm, 54, rfl⟩
abbrev main_v13 : Ref sig .tc := ⟨.hbm, 55, rfl⟩
abbrev main_v14 : Ref sig .tc := ⟨.hbm, 56, rfl⟩
abbrev main_cst_3 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_4 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_5 : Ref sig .tc := ⟨.hbm, 70, rfl⟩
abbrev main_call2_v0 : Ref sig .tc := ⟨.hbm, 71, rfl⟩
abbrev main_call2_v1 : Ref sig .tc := ⟨.hbm, 72, rfl⟩
abbrev main_v26 : Ref sig .tc := ⟨.hbm, 73, rfl⟩
abbrev main_call3_v0 : Ref sig .tc := ⟨.hbm, 74, rfl⟩
abbrev main_call3_cst : Ref sig .tc := ⟨.hbm, 75, rfl⟩
abbrev main_call3_c : Ref sig .tc := ⟨.hbm, 76, rfl⟩
abbrev main_call3_v1_0 : Ref sig .tc := ⟨.hbm, 77, rfl⟩
abbrev main_v27 : Ref sig .tc := ⟨.hbm, 78, rfl⟩
abbrev main_v28 : Ref sig .tc := ⟨.hbm, 79, rfl⟩
abbrev main_call4_c : Ref sig .tc := ⟨.hbm, 80, rfl⟩
abbrev main_call4_v0 : Ref sig .tc := ⟨.hbm, 81, rfl⟩
abbrev main_call4_v1 : Ref sig .tc := ⟨.hbm, 82, rfl⟩
abbrev main_call4_c_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_c_1 : Ref sig .tc := ⟨.hbm, 88, rfl⟩
abbrev main_call4_c_2 : Ref sig .tc := ⟨.hbm, 89, rfl⟩
abbrev main_call4_v6 : Ref sig .tc := ⟨.hbm, 90, rfl⟩
abbrev main_call4_v7 : Ref sig .tc := ⟨.hbm, 91, rfl⟩
abbrev main_call4_v8 : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_c_3 : Ref sig .tc := ⟨.hbm, 96, rfl⟩
abbrev main_call4_v12 : Ref sig .tc := ⟨.hbm, 97, rfl⟩
abbrev main_call4_v13 : Ref sig .tc := ⟨.hbm, 98, rfl⟩
abbrev main_call4_cst : Ref sig .tc := ⟨.hbm, 99, rfl⟩
abbrev main_call4_v14 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_cst_6 : Ref sig .tc := ⟨.hbm, 114, rfl⟩
abbrev main_v42 : Ref sig .tc := ⟨.hbm, 115, rfl⟩
abbrev main_v43 : Ref sig .tc := ⟨.hbm, 116, rfl⟩
abbrev main_cst_7 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_cst_8 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_cst_9 : Ref sig .tc := ⟨.hbm, 126, rfl⟩
abbrev main_v51 : Ref sig .tc := ⟨.hbm, 127, rfl⟩
abbrev main_cst_10 : Ref sig .tc := ⟨.hbm, 128, rfl⟩
abbrev main_v52 : Ref sig .tc := ⟨.hbm, 129, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x100000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Proof.KernelIdeal.Ring.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The two-slot ring of the first call: its slots, semaphores and blocks, what is held when `k` copies have been started,
and how the body's slices at each grid point are these slots and blocks. -/

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The resources of the separation logic the runs are stated in. -/
local notation "𝕄" => MT nD τ sig Unit (Elt F) ℕ (Pipeline.UD sig nD τ) ℕ

variable (V : (c : Dev nD) → (b : Ref sig .tc) → Buf (Elt F) ((c : Thread nD τ).loc b))

/-- The block of window `w` at grid point `t`, as it lies in the window's array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A window that is only read holds its array's block when the body starts, whatever the rest of the run is. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The body's first condition: this is grid point 0. -/
abbrev cond0_0 (i : grid0.Coords) : Prop := (Scalar.cmpi .ne (Scalar.extui (Scalar.cmpi .eq (BitVec.ofNat 32 (i 0).val) 0#32)) 0#32) = 1#1
/-- The first condition holds exactly at the multiples of 32, so only at point 0 of this grid. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The body's second condition: there is a next grid point. -/
abbrev cond0_1 (i : grid0.Coords) : Prop := k0_cond2 i = 1#1
/-- The second condition holds exactly below the last point. -/
theorem hcond0_1 : ∀ t : Fin cfg0.N, cond0_1 (grid0.coords t) ↔ t.val < 31 :=
  (by decide +kernel : ∀ t : Fin grid0.N, cond0_1 (grid0.coords t) ↔ t.val < 31)

/-- The output window's staging buffer, seen whole. -/
abbrev VO0_1 : View sig .tc .vmem S32x1 .f32 := (Memref.whole cc0_stg1_0 : Memref sig .tc .vmem S32x1 .f32).view
/-- The output window's staging buffer, seen whole. -/
abbrev VO0_2 : View sig .tc .vmem S32x1 .f32 := (Memref.whole cc0_stg2_0 : Memref sig .tc .vmem S32x1 .f32).view
/-- The window's staging buffer at grid point `t`. -/
abbrev ms0_0 (t : Fin cfg0.N) : Memref sig .tc .vmem S32x1 .i32 := win0_0.stage (cfg0.slots t 0)
/-- It is seen whole. -/
abbrev hs0_0 (t : Fin cfg0.N) : (ms0_0 t).IsWhole := hstage0_0 ((cfg0.slots t 0).cast nbuf0_0)
/-- The window's staging buffer at grid point `t`. -/
abbrev ms0_1 (t : Fin cfg0.N) : Memref sig .tc .vmem S32x1 .f32 := win0_1.stage (cfg0.slots t 1)
/-- It is seen whole. -/
abbrev hs0_1 (t : Fin cfg0.N) : (ms0_1 t).IsWhole := hstage0_1 ((cfg0.slots t 1).cast nbuf0_1)
/-- The window's staging buffer at grid point `t`. -/
abbrev ms0_2 (t : Fin cfg0.N) : Memref sig .tc .vmem S32x1 .f32 := win0_2.stage (cfg0.slots t 2)
/-- It is seen whole. -/
abbrev hs0_2 (t : Fin cfg0.N) : (ms0_2 t).IsWhole := hstage0_2 ((cfg0.slots t 2).cast nbuf0_2)
/-- The ring's buffer, both slots. -/
abbrev scM0_0 : Memref sig .tc .vmem S2x32x100000 .f32 := Memref.whole cc0_scratch0
/-- The array `x`, which the body copies from. -/
abbrev hbM0_0 : Memref sig .tc .hbm S1024x100000 .f32 := Memref.whole main_arg0
/-- The contents of the buffer that a reference lies in, on device `c`. -/
abbrev HbBuf0 (c : Dev nD) {sp : Space} {S : Shape} {e : EltTy} (M : Memref sig .tc sp S e) : Type := Buf (Elt F) (M.view.loc (c : Thread nD τ))
/-- Full ownership of a reference's whole buffer, holding `f`. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The two semaphores of the ring. -/
abbrev osem0 : Fin 2 → SemLoc sig := fun j => (![SemLoc.dma 6, SemLoc.dma 7] : Fin 2 → SemLoc sig) j
/-- The ring's two semaphores are distinct, and none of them is a window's. -/
theorem ownSemFacts0 : Pipeline.OwnSemFacts spec0 osem0 := by decide
/-- Holding the ring's semaphores at zero, written out as two. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl
/-- The arrays that the first call's body copies from itself: `x` alone. -/
def H0 : Finset (Ref sig .tc) := {main_arg0}
/-- `x` is none of the first call's windows. -/
theorem H0_sub : H0 ⊆ Pipeline.restRefs sig spec0 := by decide
/-- Holding these arrays, written out as holding `x`. -/
theorem hbmPts0_eq (c : Dev nD) :
    (bigSep H0 (fun b => ((c : Thread nD τ).loc b) ↦{fullShare} V c b) : sProp 𝕄) = iprop(hbPt0 c hbM0_0 (V c main_arg0)) := by
  rw [BI.bigSep_eq_bigSepL_of_eq [main_arg0] (by decide) (by decide)]; rfl

/-- The second call's staging buffers, with whatever they hold: the first call leaves them alone. -/
def othersS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f))

/-- What the first call holds apart from its windows, written out: the ring's buffer, the second call's staging buffers, the generator, two semaphores at zero and the array `x`. -/
theorem PhiD0_eq (c : Dev nD) :
    (Pipeline.ΦD osem0 spec0 H0 V c : sProp 𝕄)
      = iprop(iprop((∃ d, owns (c : Thread nD τ) scM0_0 fullShare d) ∗ othersS0 c) ∗ (∃ r, prngReg c r) ∗ iprop(semVal ((c : Thread nD τ), SemLoc.dma 6) 0 ∗ semVal ((c : Thread nD τ), SemLoc.dma 7) 0) ∗ iprop(hbPt0 c hbM0_0 (V c main_arg0))) := by
  rw [Pipeline.ΦD_eq, scopedRest0_eq, ownSems00_eq, hbmPts0_eq]; simp only [scM0_0, owns_whole]; try rfl

instance : NeZero grid0.N := ⟨by rw [N_0]; decide⟩
/-- A slot lies within the ring's buffer. -/
theorem inb_slot0_0 (s : Fin 2) : ∀ a, (![s.val, 0, 0] : Fin 3 → Nat) a + S1x32x100000.size a ≤ S2x32x100000.size a := by
  have := s.isLt; intro a; fin_cases a <;> simp <;> omega
/-- A block of 32 rows lies within `x`. -/
theorem inb_src0_0 (b : Fin 32) : ∀ a, (![32 * b.val, 0] : Fin 2 → Nat) a + S32x100000.size a ≤ S1024x100000.size a := by
  have := b.isLt; intro a; fin_cases a <;> simp <;> omega
/-- A slot's semaphore lies within the array of semaphores. -/
theorem inb_cell0_0 (s : Fin 2) : ∀ a, (![s.val] : Fin 1 → Nat) a + S1.size a ≤ S2.size a := by
  have := s.isLt; intro a; fin_cases a <;> simp <;> omega
/-- Slot `s` of the ring, as 32 rows. -/
def rslot0_0 (s : Fin 2) : Memref sig .tc .vmem S32x100000 .f32 :=
  (scM0_0.slice (Rect.unit (s := S2x32x100000) ![s.val, 0, 0] S1x32x100000.size (inb_slot0_0 s)) (fun _ => rfl)).squeeze S32x100000 squeezes_S1x32x100000_S32x100000
/-- Block `b` of `x`: rows `32 b` to `32 b + 31`. -/
def srcB0_0 (b : Fin 32) : Memref sig .tc .hbm S32x100000 .f32 :=
  hbM0_0.slice (Rect.unit (s := S1024x100000) ![32 * b.val, 0] S32x100000.size (inb_src0_0 b)) (fun _ => rfl)
/-- The semaphore of slot `s`, as a reference. -/
def cellA0_0 (s : Fin 2) : DmaSems sig S_ := (cc0_scratch1.slice (Rect.unit (s := S2) ![s.val] S1.size (inb_cell0_0 s))).squeeze S_ squeezes_S1_S_
/-- The semaphore of slot `s`, by its location. -/
abbrev cellR0_0 (s : Fin 2) : SemLoc sig := SemLoc.dma (cellA0_0 s).sem
/-- Which semaphore this slot has. -/
theorem cellR0_0_0 : cellR0_0 0 = SemLoc.dma 6 := by decide
/-- Which semaphore this slot has. -/
theorem cellR0_0_1 : cellR0_0 1 = SemLoc.dma 7 := by decide

section Ring0_0
variable (c : Dev nD) (W : HbBuf0 (F := F) c hbM0_0)
/-- The share of `x` that slot `s` reads with: each has one half. -/
abbrev qs0_0 (s : Fin 2) : PosShare TreeShare := if s.val = 0 then fullShare.left else fullShare.right
/-- Slot `s` is owned and holds `f`. -/
abbrev slotP0_0 (s : Fin 2) (f : HbBuf0 (F := F) c (rslot0_0 s)) : sProp 𝕄 := (rslot0_0 s).view.loc (c : Thread nD τ) ↦[(rslot0_0 s).view.set]{fullShare} f
/-- The semaphore of slot `s` is at zero. -/
abbrev cellP0_0 (s : Fin 2) : sProp 𝕄 := semVal ((c : Thread nD τ), cellR0_0 s) 0
/-- Slot `s`'s share of block `b` of `x`. -/
abbrev srcP0_0 (s : Fin 2) (b : Fin 32) : sProp 𝕄 := (srcB0_0 b).view.loc (c : Thread nD τ) ↦[(srcB0_0 b).view.set]{qs0_0 s} W
/-- Slot `s`'s share of everything in `x` outside block `b`. -/
def restP0_0 (s : Fin 2) (b : Fin 32) : sProp 𝕄 := ((c : Thread nD τ).loc main_arg0) ↦[Finset.univ \ (srcB0_0 b).view.set]{qs0_0 s} W
/-- Slot `s`'s share of all of `x`. -/
abbrev wholeP0_0 (s : Fin 2) : sProp 𝕄 := ((c : Thread nD τ).loc main_arg0) ↦[Finset.univ]{qs0_0 s} W
/-- What slot `s` holds once the copy of block `b` has landed. -/
abbrev landed0_0 (s : Fin 2) (b : Fin 32) (f : HbBuf0 (F := F) c (rslot0_0 s)) : HbBuf0 (F := F) c (rslot0_0 s) :=
  (rslot0_0 s).view.writes (Elt F) f [⟨Rect.whole S32x100000, ReadAs.same.apply ((srcB0_0 b).view.read (Elt F) W)⟩]
/-- The copy of block `b` into slot `s` is under way; when it lands it gives back the slot and the share of the block. -/
abbrev flightP0_0 (s : Fin 2) (b : Fin 32) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- What a free slot holds: itself, and its share of `x`. -/
abbrev slotW0_0 (s : Fin 2) (f : HbBuf0 (F := F) c (rslot0_0 s)) : sProp 𝕄 := iprop(slotP0_0 c s f ∗ wholeP0_0 c W s)
/-- What goes with a copy under way: the copy, and the share of the rest of `x`. -/
abbrev flightW0_0 (s : Fin 2) (b : Fin 32) (f : HbBuf0 (F := F) c (rslot0_0 s)) : sProp 𝕄 := iprop(flightP0_0 c W s b f ∗ restP0_0 c W s b)
/-- A block of `x` needs nothing kept for it. -/
abbrev noHome0_0 (b : Fin 32) : sProp 𝕄 := iprop(emp)
/-- The ring before grid point `k`: both slots free at first and after the last point, and in between the copy of block `k` under way. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] [Named F] in
/-- This slot's semaphore at zero, by its number. -/
theorem cellP0_0_0 : cellP0_0 (F := F) c 0 = semVal ((c : Thread nD τ), SemLoc.dma 6) 0 := congrArg (fun x => (semVal ((c : Thread nD τ), x) 0 : sProp 𝕄)) cellR0_0_0
omit [FloatOps F] [Named F] in
/-- This slot's semaphore at zero, by its number. -/
theorem cellP0_0_1 : cellP0_0 (F := F) c 1 = semVal ((c : Thread nD τ), SemLoc.dma 7) 0 := congrArg (fun x => (semVal ((c : Thread nD τ), x) 0 : sProp 𝕄)) cellR0_0_1
end Ring0_0

/-- The positions of slot `s` in the ring's buffer. -/
abbrev slotSet0_0 (s : Fin 2) : Finset S2x32x100000.Idx := (Rect.unit (s := S2x32x100000) ![s.val, 0, 0] S1x32x100000.size (inb_slot0_0 s)).set
/-- The slot's view covers just these positions. -/
theorem slotSet0_0_eq (s : Fin 2) : (rslot0_0 s).view.set = slotSet0_0 s := by
  simp only [rslot0_0, Memref.view_squeeze, View.set_reshape]; exact View.set_slice_whole _ _
/-- Two different slots share no position. -/
theorem slots0_0_disjoint (s s' : Fin 2) (h : s ≠ s') : Disjoint (slotSet0_0 s) (slotSet0_0 s') :=
  Ring.lead_disjoint (s := S2x32x100000) (0 : Fin 3) 1 (fun s : Fin 2 => (![s.val, 0, 0] : Fin 3 → Nat)) S1x32x100000.size inb_slot0_0 (fun s => by simp) rfl s s' h
/-- The two slots make up the ring's buffer. -/
theorem slots0_0_cover : Finset.univ.biUnion slotSet0_0 = Finset.univ :=
  Ring.lead_cover (s := S2x32x100000) (0 : Fin 3) 1 (fun s : Fin 2 => (![s.val, 0, 0] : Fin 3 → Nat)) S1x32x100000.size inb_slot0_0 (fun s => by simp)
    (fun s a ha => by fin_cases a <;> first | exact absurd rfl ha | rfl) rfl (fun a ha => by fin_cases a <;> first | exact absurd rfl ha | rfl) rfl

section InOut0_0
variable (c : Dev nD) (W : HbBuf0 (F := F) c hbM0_0)
/-- Owning a slot is owning its positions in the ring's buffer. -/
theorem slotP0_0_eq (s : Fin 2) (f) : slotP0_0 (F := F) c s f = (((c : Thread nD τ).loc cc0_scratch0) ↦[slotSet0_0 s]{fullShare} f : sProp 𝕄) := by
  unfold slotP0_0; rw [slotSet0_0_eq]; rfl
/-- A share of `x` is a share of one block and of the rest. -/
theorem src0_0_split (s : Fin 2) (b : Fin 32) : wholeP0_0 (F := F) c W s ⊣⊢ iprop(srcP0_0 c W s b ∗ restP0_0 c W s b) := by
  unfold restP0_0; exact pointsTo_split_subset (Finset.subset_univ _)
/-- `x` is two halves, one for each slot. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- The ring's buffer taken apart into its two slots. -/
theorem slots0_0_in : iprop(∃ d, owns (c : Thread nD τ) scM0_0 fullShare d) ⊢ (iprop((∃ f, slotP0_0 (F := F) c 0 f) ∗ ∃ f, slotP0_0 (F := F) c 1 f) : sProp 𝕄) := by
  simp only [scM0_0, owns_whole]
  exact Ring.slots2_split (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
set_option maxHeartbeats 1000000 in
/-- The two slots put together to the ring's buffer. -/
theorem slots0_0_out : (iprop((∃ f, slotP0_0 (F := F) c 0 f) ∗ ∃ f, slotP0_0 (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
end InOut0_0

/-- The buffer, the semaphores at zero and `x` make the ring before the first point. -/
theorem ring0_0_in (c : Dev nD) :
    iprop((∃ d, owns (c : Thread nD τ) scM0_0 fullShare d) ∗ (semVal ((c : Thread nD τ), SemLoc.dma 6) 0 ∗ semVal ((c : Thread nD τ), SemLoc.dma 7) 0) ∗ hbPt0 c hbM0_0 (V c main_arg0))
      ⊢ ringAt0_0 c (V c main_arg0) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V c main_arg0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- After the last point the ring gives back the buffer, the semaphores at zero and `x` unchanged. -/
theorem ring0_0_out (c : Dev nD) :
    ringAt0_0 c (V c main_arg0) 32
      ⊢ iprop((∃ d, owns (c : Thread nD τ) scM0_0 fullShare d) ∗ (semVal ((c : Thread nD τ), SemLoc.dma 6) 0 ∗ semVal ((c : Thread nD τ), SemLoc.dma 7) 0) ∗ hbPt0 c hbM0_0 (V c main_arg0)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V c main_arg0)).2; isplitl [HW0]; · iexact HW0
    iexact HW1

section Canon0_0
omit [FloatOps F] [Named F]
/-- Where both conditions hold the point is number 0. -/
theorem rstep0_0_A : ∀ t : Fin grid0.N, cond0_0 (grid0.coords t) → cond0_1 (grid0.coords t) → t.val = 0 ∧ (t.val + 1) = 1 := by decide +kernel
/-- Where only the second holds the point is neither the first nor the last. -/
theorem rstep0_0_B : ∀ t : Fin grid0.N, ¬cond0_0 (grid0.coords t) → cond0_1 (grid0.coords t) → 1 ≤ t.val ∧ t.val + 1 < 32 ∧ (t.val + 1) = t.val + 1 := by decide +kernel
/-- Where neither holds the point is the last. -/
theorem rstep0_0_C : ∀ t : Fin grid0.N, ¬cond0_0 (grid0.coords t) → ¬cond0_1 (grid0.coords t) → 1 ≤ t.val ∧ t.val + 1 = 32 ∧ (t.val + 1) = t.val + 1 := by decide +kernel
set_option synthInstance.maxSize 4096 in
/-- The offset that the body computes here is the ring's. -/
theorem coff0_0_1 : ∀ t : Fin grid0.N, cond0_0 (grid0.coords t) → cond0_1 (grid0.coords t) → (![0, 0, 0] : Fin 3 → Nat) = ![(Ring.sl 2 t.val).val, 0, 0] := by decide +kernel
/-- The slice that the body takes here is the ring's own slot or its semaphore. -/
@[sl_canon] theorem canon0_0_1 (t : Fin grid0.N) (h0 : cond0_0 (grid0.coords t)) (h1 : cond0_1 (grid0.coords t)) :
    (scM0_0.slice (Rect.unit (s := S2x32x100000) ![0, 0, 0] S1x32x100000.size inb_S2x32x100000_S1x32x100000_0_0_0) (fun _ => rfl)).squeeze S32x100000 squeezes_S1x32x100000_S32x100000 = rslot0_0 (Ring.sl 2 t.val) :=
  congrArg (fun M : Memref sig .tc .vmem S1x32x100000 .f32 => M.squeeze S32x100000 squeezes_S1x32x100000_S32x100000) (Memref.slice_unit_congr _ (coff0_0_1 t h0 h1) _ _ (fun _ => rfl) (fun _ => rfl))
set_option synthInstance.maxSize 4096 in
/-- The offset that the body computes here is the ring's. -/
theorem coff0_0_2 : ∀ t : Fin grid0.N, cond0_0 (grid0.coords t) → cond0_1 (grid0.coords t) → (![0] : Fin 1 → Nat) = ![(Ring.sl 2 t.val).val] := by decide +kernel
/-- The slice that the body takes here is the ring's own slot or its semaphore. -/
@[sl_canon] theorem canon0_0_2 (t : Fin grid0.N) (h0 : cond0_0 (grid0.coords t)) (h1 : cond0_1 (grid0.coords t)) :
    (cc0_scratch1.slice (Rect.unit (s := S2) ![0] S1.size inb_S2_S1_0)).squeeze S_ squeezes_S1_S_ = cellA0_0 (Ring.sl 2 t.val) :=
  congrArg (fun A : DmaSems sig S1 => A.squeeze S_ squeezes_S1_S_) (SemArray.slice_unit_congr _ (coff0_0_2 t h0 h1) _ _)
set_option synthInstance.maxSize 4096 in
/-- The offset that the body computes here is the ring's. -/
theorem coff0_0_3 : ∀ t : Fin grid0.N, cond0_0 (grid0.coords t) → cond0_1 (grid0.coords t) → (![0, 0] : Fin 2 → Nat) = ![32 * (Ring.bk 32 t.val).val, 0] := by decide +kernel
/-- The slice of `x` that the body takes here is the block of that number. -/
@[sl_canon] theorem canon0_0_3 (t : Fin grid0.N) (h0 : cond0_0 (grid0.coords t)) (h1 : cond0_1 (grid0.coords t)) :
    hbM0_0.slice (Rect.unit (s := S1024x100000) ![0, 0] S32x100000.size inb_S1024x100000_S32x100000_0_0) (fun _ => rfl) = srcB0_0 (Ring.bk 32 t.val) :=
  congrArg (fun M : Memref sig .tc .hbm S32x100000 .f32 => M) (Memref.slice_unit_congr _ (coff0_0_3 t h0 h1) _ _ (fun _ => rfl) (fun _ => rfl))
set_option synthInstance.maxSize 4096 in
/-- The offset that the body computes here is the ring's. -/
theorem coff0_0_4 : ∀ t : Fin grid0.N, k0_off2 (grid0.coords t) = ![(Ring.sl 2 (t.val + 1)).val, 0, 0] := by decide +kernel
/-- The slice that the body takes here is the ring's own slot or its semaphore. -/
@[sl_canon] theorem canon0_0_4 (t : Fin grid0.N) (h1 : cond0_1 (grid0.coords t)) :
    (scM0_0.slice (Rect.unit (s := S2x32x100000) (k0_off2 (grid0.coords t)) S1x32x100000.size (k0_off2_inb (grid0.coords t) h1)) (fun _ => rfl)).squeeze S32x100000 squeezes_S1x32x100000_S32x100000 = rslot0_0 (Ring.sl 2 (t.val + 1)) :=
  congrArg (fun M : Memref sig .tc .vmem S1x32x100000 .f32 => M.squeeze S32x100000 squeezes_S1x32x100000_S32x100000) (Memref.slice_unit_congr _ (coff0_0_4 t ) _ _ (fun _ => rfl) (fun _ => rfl))
set_option synthInstance.maxSize 4096 in
/-- The offset that the body computes here is the ring's. -/
theorem coff0_0_5 : ∀ t : Fin grid0.N, k0_off1 (grid0.coords t) = ![(Ring.sl 2 (t.val + 1)).val] := by decide +kernel
/-- The slice that the body takes here is the ring's own slot or its semaphore. -/
@[sl_canon] theorem canon0_0_5 (t : Fin grid0.N) (h1 : cond0_1 (grid0.coords t)) :
    (cc0_scratch1.slice (Rect.unit (s := S2) (k0_off1 (grid0.coords t)) S1.size (k0_off1_inb (grid0.coords t) h1))).squeeze S_ squeezes_S1_S_ = cellA0_0 (Ring.sl 2 (t.val + 1)) :=
  congrArg (fun A : DmaSems sig S1 => A.squeeze S_ squeezes_S1_S_) (SemArray.slice_unit_congr _ (coff0_0_5 t ) _ _)
set_option synthInstance.maxSize 4096 in
/-- The offset that the body computes here is the ring's. -/
theorem coff0_0_6 : ∀ t : Fin grid0.N, cond0_0 (grid0.coords t) → cond0_1 (grid0.coords t) → k0_off3 (grid0.coords t) = ![32 * (Ring.bk 32 (t.val + 1)).val, 0] := by decide +kernel
/-- The slice of `x` that the body takes here is the block of that number. -/
@[sl_canon] theorem canon0_0_6 (t : Fin grid0.N) (h0 : cond0_0 (grid0.coords t)) (h1 : cond0_1 (grid0.coords t)) :
    hbM0_0.slice (Rect.unit (s := S1024x100000) (k0_off3 (grid0.coords t)) S32x100000.size (k0_off3_inb (grid0.coords t) h1)) (fun _ => rfl) = srcB0_0 (Ring.bk 32 (t.val + 1)) :=
  congrArg (fun M : Memref sig .tc .hbm S32x100000 .f32 => M) (Memref.slice_unit_congr _ (coff0_0_6 t h0 h1) _ _ (fun _ => rfl) (fun _ => rfl))
set_option synthInstance.maxSize 4096 in
/-- The offset that the body computes here is the ring's. -/
theorem coff0_0_7 : ∀ t : Fin grid0.N, k0_off5 (grid0.coords t) = ![(Ring.sl 2 t.val).val, 0, 0] := by decide +kernel
/-- The slice that the body takes here is the ring's own slot or its semaphore. -/
@[sl_canon] theorem canon0_0_7 (t : Fin grid0.N) :
    (scM0_0.slice (Rect.unit (s := S2x32x100000) (k0_off5 (grid0.coords t)) S1x32x100000.size (k0_off5_inb (grid0.coords t))) (fun _ => rfl)).squeeze S32x100000 squeezes_S1x32x100000_S32x100000 = rslot0_0 (Ring.sl 2 t.val) :=
  congrArg (fun M : Memref sig .tc .vmem S1x32x100000 .f32 => M.squeeze S32x100000 squeezes_S1x32x100000_S32x100000) (Memref.slice_unit_congr _ (coff0_0_7 t ) _ _ (fun _ => rfl) (fun _ => rfl))
set_option synthInstance.maxSize 4096 in
/-- The offset that the body computes here is the ring's. -/
theorem coff0_0_8 : ∀ t : Fin grid0.N, k0_off4 (grid0.coords t) = ![(Ring.sl 2 t.val).val] := by decide +kernel
/-- The slice that the body takes here is the ring's own slot or its semaphore. -/
@[sl_canon] theorem canon0_0_8 (t : Fin grid0.N) :
    (cc0_scratch1.slice (Rect.unit (s := S2) (k0_off4 (grid0.coords t)) S1.size (k0_off4_inb (grid0.coords t)))).squeeze S_ squeezes_S1_S_ = cellA0_0 (Ring.sl 2 t.val) :=
  congrArg (fun A : DmaSems sig S1 => A.squeeze S_ squeezes_S1_S_) (SemArray.slice_unit_congr _ (coff0_0_8 t ) _ _)
set_option synthInstance.maxSize 4096 in
/-- The offset that the body computes here is the ring's. -/
theorem coff0_0_9 : ∀ t : Fin grid0.N, ¬cond0_0 (grid0.coords t) → cond0_1 (grid0.coords t) → k0_off3 (grid0.coords t) = ![32 * (Ring.bk 32 (t.val + 1)).val, 0] := by decide +kernel
/-- The slice of `x` that the body takes here is the block of that number. -/
@[sl_canon] theorem canon0_0_9 (t : Fin grid0.N) (h0 : ¬cond0_0 (grid0.coords t)) (h1 : cond0_1 (grid0.coords t)) :
    hbM0_0.slice (Rect.unit (s := S1024x100000) (k0_off3 (grid0.coords t)) S32x100000.size (k0_off3_inb (grid0.coords t) h1)) (fun _ => rfl) = srcB0_0 (Ring.bk 32 (t.val + 1)) :=
  congrArg (fun M : Memref sig .tc .hbm S32x100000 .f32 => M) (Memref.slice_unit_congr _ (coff0_0_9 t h0 h1) _ _ (fun _ => rfl) (fun _ => rfl))
set_option synthInstance.maxSize 4096 in
/-- The offset that the body computes here is the ring's. -/
theorem coff0_0_10 : ∀ t : Fin grid0.N, k0_off7 (grid0.coords t) = ![(Ring.sl 2 t.val).val, 0, 0] := by decide +kernel
/-- The place at which the body reads its slot, in closed form. -/
instance (priority := high) closedOff0_0_10 (t : Fin grid0.N) : ClosedOff (k0_off7 (grid0.coords t)) := ⟨![(Ring.sl 2 t.val).val, 0, 0], coff0_0_10 t⟩
end Canon0_0

end Cert.KernelIdeal.Whole

end
-- ==== Proof.KernelIdeal.RunA.lean ====
module

public import proofs.«01_k».proof.Proof.KernelIdeal.Ring

/-! The first call's body at the first grid point, which starts the copies of its own block and of the next. -/

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The resources of the separation logic the runs are stated in. -/
local notation "𝕄" => MT nD τ sig Unit (Elt F) ℕ (Pipeline.UD sig nD τ) ℕ

set_option maxHeartbeats 1000000 in
/-- The body at the first grid point: run from its label block, the generator, two free slots and nothing under way, it ends with the label block unchanged, the pieces found here written to the two output blocks, and the next block's copy under way. -/
noncomputable def kernelRun0_A (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : cond0_0 (grid0.coords t)) (hc1 : cond0_1 (grid0.coords t))
    (x0 : Vec F S32x1 .i32) (g : PrngReg) (fh0 : HbBuf0 (F := F) c hbM0_0) :
    Σ' (L1 : List (View.Piece (Elt F) S32x1 .f32)), { L2 : List (View.Piece (Elt F) S32x1 .f32) //
      ∀ (W : Waits sig Unit) (K : PUnit → sProp 𝕄),
        iprop(owns (c : Thread nD τ) arg2 fullShare x0 ∗ (∃ d, owns (c : Thread nD τ) arg3 fullShare d) ∗ (∃ d, owns (c : Thread nD τ) arg4 fullShare d) ∗ prngReg c g ∗ Ring.free (cellP0_0 c) (slotW0_0 c fh0) (Ring.sl 2 t.val) ∗ Ring.free (cellP0_0 c) (slotW0_0 c fh0) (Ring.sl 2 (t.val + 1)) ∗ owes (c : Thread nD τ) 0 W
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ r, prngReg c r) ∗ Ring.inflight (flightW0_0 c fh0) (Ring.sl 2 (t.val + 1)) (Ring.bk 32 (t.val + 1)) ∗ Ring.kept (cellP0_0 c) (slotW0_0 c fh0) (landed0_0 c fh0) (Ring.sl 2 t.val) (Ring.bk 32 t.val) ∗ (∃ W', owes (c : Thread nD τ) 0 W')) -∗ K ⟨⟩))
          ⊢ wp frame (wpE (defs₀ (F := F)) Variants.none c none) Set.univ (cc0__row_stats_kernel (grid0.coords t) (Memref.whole main_arg0) (Memref.isWhole_whole _) arg2 harg2 arg3 harg3 arg4 harg4 scM0_0 (Memref.isWhole_whole _) cc0_scratch1) K } := by
  refine ⟨?_, ?_, fun W K => ?run⟩
  case run =>
    haveI : Fact (cond0_0 (grid0.coords t)) := ⟨hc0⟩
    haveI : Fact (cond0_1 (grid0.coords t)) := ⟨hc1⟩
    simp only [cc0__row_stats_kernel_eq_skeleton]; unfold cc0__row_stats_kernel_skel
    simp only [k0_part1_eq_skeleton, k0_part2_eq_skeleton]
    have hcanon0 := canon0_0_1 t hc0 hc1
    have hcanon1 := canon0_0_2 t hc0 hc1
    have hcanon2 := canon0_0_3 t hc0 hc1
    unfold owns Ring.free Ring.inflight Ring.kept
    iintro ⟨⟨%f0, %hf0, H0⟩, ⟨%d1, %f1, -, H1⟩, ⟨%d2, %f2, -, H2⟩, Hg, ⟨Hc0_0_0, ⟨%fs0_0_0, Hs0_0_0, Hw0_0_0⟩⟩, ⟨Hc0_0_1, ⟨%fs0_0_1, Hs0_0_1, Hw0_0_1⟩⟩, HW, Hk⟩
    ihave Hsp0_0_0 := (src0_0_split c fh0 (Ring.sl 2 t.val) (Ring.bk 32 t.val)).1 $$ Hw0_0_0
    icases Hsp0_0_0 with ⟨Hh0_0_0, Hr0_0_0⟩
    ihave Hsp0_0_1 := (src0_0_split c fh0 (Ring.sl 2 (t.val + 1)) (Ring.bk 32 (t.val + 1))).1 $$ Hw0_0_1
    icases Hsp0_0_1 with ⟨Hh0_0_1, Hr0_0_1⟩
    obtain rfl := harg2.eq_unread hf0
    sl_exec (disch := first | sl_exact hc0 | sl_exact hc1)
    sl_step
    iapply Hk
    isplitl [H0]
    · iexists _; isplitr; · ipureintro; exact harg2.read_unread _
      iexact H0
    isplitl [H1]; · iexists _; iexact H1
    isplitl [H2]; · iexists _; iexact H2
    isplitl [Hg]; · iexists _; iexact Hg
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 32 t.val)).2; isplitl [Hh0_0_0]; · iexact Hh0_0_0
      iexact Hr0_0_0
    iexists _; iexact HW

end Cert.KernelIdeal.Whole

end
-- ==== Proof.KernelIdeal.RunB.lean ====
module

public import proofs.«01_k».proof.Proof.KernelIdeal.RunA

/-! The first call's body at a grid point in the middle, which starts the copy of the next block and waits for its own. -/

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The resources of the separation logic the runs are stated in. -/
local notation "𝕄" => MT nD τ sig Unit (Elt F) ℕ (Pipeline.UD sig nD τ) ℕ

set_option maxHeartbeats 1000000 in
/-- The body at a grid point in the middle: run from its label block, the generator, its own block's copy under way and a free slot, it ends with the label block unchanged, the pieces found here written to the two output blocks, its own slot free and the next block's copy under way. -/
noncomputable def kernelRun0_B (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : ¬cond0_0 (grid0.coords t)) (hc1 : cond0_1 (grid0.coords t))
    (x0 : Vec F S32x1 .i32) (g : PrngReg) (fh0 : HbBuf0 (F := F) c hbM0_0) :
    Σ' (L1 : List (View.Piece (Elt F) S32x1 .f32)), { L2 : List (View.Piece (Elt F) S32x1 .f32) //
      ∀ (W : Waits sig Unit) (K : PUnit → sProp 𝕄),
        iprop(owns (c : Thread nD τ) arg2 fullShare x0 ∗ (∃ d, owns (c : Thread nD τ) arg3 fullShare d) ∗ (∃ d, owns (c : Thread nD τ) arg4 fullShare d) ∗ prngReg c g ∗ Ring.inflight (flightW0_0 c fh0) (Ring.sl 2 t.val) (Ring.bk 32 t.val) ∗ Ring.kept (cellP0_0 c) (slotW0_0 c fh0) (landed0_0 c fh0) (Ring.sl 2 (t.val + 1)) (Ring.bk 32 (t.val - 1)) ∗ owes (c : Thread nD τ) 0 W
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ r, prngReg c r) ∗ Ring.inflight (flightW0_0 c fh0) (Ring.sl 2 (t.val + 1)) (Ring.bk 32 (t.val + 1)) ∗ Ring.kept (cellP0_0 c) (slotW0_0 c fh0) (landed0_0 c fh0) (Ring.sl 2 t.val) (Ring.bk 32 t.val) ∗ (∃ W', owes (c : Thread nD τ) 0 W')) -∗ K ⟨⟩))
          ⊢ wp frame (wpE (defs₀ (F := F)) Variants.none c none) Set.univ (cc0__row_stats_kernel (grid0.coords t) (Memref.whole main_arg0) (Memref.isWhole_whole _) arg2 harg2 arg3 harg3 arg4 harg4 scM0_0 (Memref.isWhole_whole _) cc0_scratch1) K } := by
  refine ⟨?_, ?_, fun W K => ?run⟩
  case run =>
    haveI : Fact (¬cond0_0 (grid0.coords t)) := ⟨hc0⟩
    haveI : Fact (cond0_1 (grid0.coords t)) := ⟨hc1⟩
    simp only [cc0__row_stats_kernel_eq_skeleton]; unfold cc0__row_stats_kernel_skel
    simp only [k0_part1_eq_skeleton, k0_part2_eq_skeleton]
    unfold owns Ring.inflight Ring.kept
    iintro ⟨⟨%f0, %hf0, H0⟩, ⟨%d1, %f1, -, H1⟩, ⟨%d2, %f2, -, H2⟩, Hg, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 32 (t.val + 1))).1 $$ Hw0_0_1
    icases Hsp0_0_1 with ⟨Hh0_0_1, Hr0_0_1⟩
    obtain rfl := harg2.eq_unread hf0
    sl_exec (disch := first | sl_exact hc0 | sl_exact hc1)
    sl_step
    iapply Hk
    isplitl [H0]
    · iexists _; isplitr; · ipureintro; exact harg2.read_unread _
      iexact H0
    isplitl [H1]; · iexists _; iexact H1
    isplitl [H2]; · iexists _; iexact H2
    isplitl [Hg]; · iexists _; iexact Hg
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 32 t.val)).2; isplitl [Hf0_0_src]; · iexact Hf0_0_src
      iexact Hrf0_0
    iexists _; iexact HW

end Cert.KernelIdeal.Whole

end
-- ==== Proof.KernelIdeal.RunC.lean ====
module

public import proofs.«01_k».proof.Proof.KernelIdeal.RunB

/-! The first call's body at the last grid point, which starts no copy and waits for its own. -/

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The resources of the separation logic the runs are stated in. -/
local notation "𝕄" => MT nD τ sig Unit (Elt F) ℕ (Pipeline.UD sig nD τ) ℕ

set_option maxHeartbeats 1000000 in
/-- The body at the last grid point: run from its label block, the generator and its own block's copy under way, it ends with the label block unchanged, the pieces found here written to the two output blocks, and its slot free. -/
noncomputable def kernelRun0_C (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : ¬cond0_0 (grid0.coords t)) (hc1 : ¬cond0_1 (grid0.coords t))
    (x0 : Vec F S32x1 .i32) (g : PrngReg) (fh0 : HbBuf0 (F := F) c hbM0_0) :
    Σ' (L1 : List (View.Piece (Elt F) S32x1 .f32)), { L2 : List (View.Piece (Elt F) S32x1 .f32) //
      ∀ (W : Waits sig Unit) (K : PUnit → sProp 𝕄),
        iprop(owns (c : Thread nD τ) arg2 fullShare x0 ∗ (∃ d, owns (c : Thread nD τ) arg3 fullShare d) ∗ (∃ d, owns (c : Thread nD τ) arg4 fullShare d) ∗ prngReg c g ∗ Ring.inflight (flightW0_0 c fh0) (Ring.sl 2 t.val) (Ring.bk 32 t.val) ∗ owes (c : Thread nD τ) 0 W
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ r, prngReg c r) ∗ Ring.kept (cellP0_0 c) (slotW0_0 c fh0) (landed0_0 c fh0) (Ring.sl 2 t.val) (Ring.bk 32 t.val) ∗ (∃ W', owes (c : Thread nD τ) 0 W')) -∗ K ⟨⟩))
          ⊢ wp frame (wpE (defs₀ (F := F)) Variants.none c none) Set.univ (cc0__row_stats_kernel (grid0.coords t) (Memref.whole main_arg0) (Memref.isWhole_whole _) arg2 harg2 arg3 harg3 arg4 harg4 scM0_0 (Memref.isWhole_whole _) cc0_scratch1) K } := by
  refine ⟨?_, ?_, fun W K => ?run⟩
  case run =>
    haveI : Fact (¬cond0_0 (grid0.coords t)) := ⟨hc0⟩
    haveI : Fact (¬cond0_1 (grid0.coords t)) := ⟨hc1⟩
    simp only [cc0__row_stats_kernel_eq_skeleton]; unfold cc0__row_stats_kernel_skel
    simp only [k0_part1_eq_skeleton, k0_part2_eq_skeleton]
    unfold owns Ring.inflight Ring.kept
    iintro ⟨⟨%f0, %hf0, H0⟩, ⟨%d1, %f1, -, H1⟩, ⟨%d2, %f2, -, H2⟩, Hg, ⟨%ff0_0, Hf0_0, Hrf0_0⟩, HW, Hk⟩
    obtain rfl := harg2.eq_unread hf0
    sl_exec (disch := first | sl_exact hc0 | sl_exact hc1)
    sl_step
    iapply Hk
    isplitl [H0]
    · iexists _; isplitr; · ipureintro; exact harg2.read_unread _
      iexact H0
    isplitl [H1]; · iexists _; iexact H1
    isplitl [H2]; · iexists _; iexact H2
    isplitl [Hg]; · iexists _; iexact Hg
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 32 t.val)).2; isplitl [Hf0_0_src]; · iexact Hf0_0_src
      iexact Hrf0_0
    iexists _; iexact HW

end Cert.KernelIdeal.Whole

end
-- ==== Proof.KernelIdeal.Region0.lean ====
module

public import proofs.«01_k».proof.Proof.KernelIdeal.RunC
public import Idealize.ShloMosaic.Lib.Claim

/-! The first call over its whole grid: what every point leaves, and that the body at each point keeps the ring's invariant. -/

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The resources of the separation logic the runs are stated in. -/
local notation "𝕄" => MT nD τ sig Unit (Elt F) ℕ (Pipeline.UD sig nD τ) ℕ

variable (V : (c : Dev nD) → (b : Ref sig .tc) → Buf (Elt F) ((c : Thread nD τ).loc b))

/-- The pieces that the body writes cover the whole output block. -/
theorem cover0_A_1 (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : cond0_0 (grid0.coords t)) (hc1 : cond0_1 (grid0.coords t))
    (x0 : Vec F S32x1 .i32) (g : PrngReg) (fh0 : HbBuf0 (F := F) c hbM0_0) (y : S32x1.Idx) :
    ∃ pc ∈ (kernelRun0_A c t arg2 harg2 arg3 harg3 arg4 harg4 hc0 hc1 x0 g fh0).1, y ∈ pc.1.set :=
  View.cover_of_tiledL (kernelRun0_A c t arg2 harg2 arg3 harg3 arg4 harg4 hc0 hc1 x0 g fh0).1 S32x1.size (by sl_kernel_rfl) y

/-- The output block that the written pieces make. -/
def out0_A_1 (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : cond0_0 (grid0.coords t)) (hc1 : cond0_1 (grid0.coords t))
    (x0 : Vec F S32x1 .i32) (g : PrngReg) (fh0 : HbBuf0 (F := F) c hbM0_0) : Vec F S32x1 .f32 :=
  VO0_1.read (Elt F) (VO0_1.writes (Elt F) VO0_1.junk (kernelRun0_A c t arg2 harg2 arg3 harg3 arg4 harg4 hc0 hc1 x0 g fh0).1)

/-- The pieces that the body writes cover the whole output block. -/
theorem cover0_A_2 (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : cond0_0 (grid0.coords t)) (hc1 : cond0_1 (grid0.coords t))
    (x0 : Vec F S32x1 .i32) (g : PrngReg) (fh0 : HbBuf0 (F := F) c hbM0_0) (y : S32x1.Idx) :
    ∃ pc ∈ (kernelRun0_A c t arg2 harg2 arg3 harg3 arg4 harg4 hc0 hc1 x0 g fh0).2.1, y ∈ pc.1.set :=
  View.cover_of_tiledL (kernelRun0_A c t arg2 harg2 arg3 harg3 arg4 harg4 hc0 hc1 x0 g fh0).2.1 S32x1.size (by sl_kernel_rfl) y

/-- The output block that the written pieces make. -/
def out0_A_2 (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : cond0_0 (grid0.coords t)) (hc1 : cond0_1 (grid0.coords t))
    (x0 : Vec F S32x1 .i32) (g : PrngReg) (fh0 : HbBuf0 (F := F) c hbM0_0) : Vec F S32x1 .f32 :=
  VO0_2.read (Elt F) (VO0_2.writes (Elt F) VO0_2.junk (kernelRun0_A c t arg2 harg2 arg3 harg3 arg4 harg4 hc0 hc1 x0 g fh0).2.1)

/-- The pieces that the body writes cover the whole output block. -/
theorem cover0_B_1 (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : ¬cond0_0 (grid0.coords t)) (hc1 : cond0_1 (grid0.coords t))
    (x0 : Vec F S32x1 .i32) (g : PrngReg) (fh0 : HbBuf0 (F := F) c hbM0_0) (y : S32x1.Idx) :
    ∃ pc ∈ (kernelRun0_B c t arg2 harg2 arg3 harg3 arg4 harg4 hc0 hc1 x0 g fh0).1, y ∈ pc.1.set :=
  View.cover_of_tiledL (kernelRun0_B c t arg2 harg2 arg3 harg3 arg4 harg4 hc0 hc1 x0 g fh0).1 S32x1.size (by sl_kernel_rfl) y

/-- The output block that the written pieces make. -/
def out0_B_1 (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : ¬cond0_0 (grid0.coords t)) (hc1 : cond0_1 (grid0.coords t))
    (x0 : Vec F S32x1 .i32) (g : PrngReg) (fh0 : HbBuf0 (F := F) c hbM0_0) : Vec F S32x1 .f32 :=
  VO0_1.read (Elt F) (VO0_1.writes (Elt F) VO0_1.junk (kernelRun0_B c t arg2 harg2 arg3 harg3 arg4 harg4 hc0 hc1 x0 g fh0).1)

/-- The pieces that the body writes cover the whole output block. -/
theorem cover0_B_2 (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : ¬cond0_0 (grid0.coords t)) (hc1 : cond0_1 (grid0.coords t))
    (x0 : Vec F S32x1 .i32) (g : PrngReg) (fh0 : HbBuf0 (F := F) c hbM0_0) (y : S32x1.Idx) :
    ∃ pc ∈ (kernelRun0_B c t arg2 harg2 arg3 harg3 arg4 harg4 hc0 hc1 x0 g fh0).2.1, y ∈ pc.1.set :=
  View.cover_of_tiledL (kernelRun0_B c t arg2 harg2 arg3 harg3 arg4 harg4 hc0 hc1 x0 g fh0).2.1 S32x1.size (by sl_kernel_rfl) y

/-- The output block that the written pieces make. -/
def out0_B_2 (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : ¬cond0_0 (grid0.coords t)) (hc1 : cond0_1 (grid0.coords t))
    (x0 : Vec F S32x1 .i32) (g : PrngReg) (fh0 : HbBuf0 (F := F) c hbM0_0) : Vec F S32x1 .f32 :=
  VO0_2.read (Elt F) (VO0_2.writes (Elt F) VO0_2.junk (kernelRun0_B c t arg2 harg2 arg3 harg3 arg4 harg4 hc0 hc1 x0 g fh0).2.1)

/-- The pieces that the body writes cover the whole output block. -/
theorem cover0_C_1 (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : ¬cond0_0 (grid0.coords t)) (hc1 : ¬cond0_1 (grid0.coords t))
    (x0 : Vec F S32x1 .i32) (g : PrngReg) (fh0 : HbBuf0 (F := F) c hbM0_0) (y : S32x1.Idx) :
    ∃ pc ∈ (kernelRun0_C c t arg2 harg2 arg3 harg3 arg4 harg4 hc0 hc1 x0 g fh0).1, y ∈ pc.1.set :=
  View.cover_of_tiledL (kernelRun0_C c t arg2 harg2 arg3 harg3 arg4 harg4 hc0 hc1 x0 g fh0).1 S32x1.size (by sl_kernel_rfl) y

/-- The output block that the written pieces make. -/
def out0_C_1 (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : ¬cond0_0 (grid0.coords t)) (hc1 : ¬cond0_1 (grid0.coords t))
    (x0 : Vec F S32x1 .i32) (g : PrngReg) (fh0 : HbBuf0 (F := F) c hbM0_0) : Vec F S32x1 .f32 :=
  VO0_1.read (Elt F) (VO0_1.writes (Elt F) VO0_1.junk (kernelRun0_C c t arg2 harg2 arg3 harg3 arg4 harg4 hc0 hc1 x0 g fh0).1)

/-- The pieces that the body writes cover the whole output block. -/
theorem cover0_C_2 (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : ¬cond0_0 (grid0.coords t)) (hc1 : ¬cond0_1 (grid0.coords t))
    (x0 : Vec F S32x1 .i32) (g : PrngReg) (fh0 : HbBuf0 (F := F) c hbM0_0) (y : S32x1.Idx) :
    ∃ pc ∈ (kernelRun0_C c t arg2 harg2 arg3 harg3 arg4 harg4 hc0 hc1 x0 g fh0).2.1, y ∈ pc.1.set :=
  View.cover_of_tiledL (kernelRun0_C c t arg2 harg2 arg3 harg3 arg4 harg4 hc0 hc1 x0 g fh0).2.1 S32x1.size (by sl_kernel_rfl) y

/-- The output block that the written pieces make. -/
def out0_C_2 (c : Dev nD) (t : Fin cfg0.N) (arg2 : Memref sig .tc .vmem S32x1 .i32) (harg2 : arg2.IsWhole) (arg3 : Memref sig .tc .vmem S32x1 .f32) (harg3 : arg3.IsWhole) (arg4 : Memref sig .tc .vmem S32x1 .f32) (harg4 : arg4.IsWhole) (hc0 : ¬cond0_0 (grid0.coords t)) (hc1 : ¬cond0_1 (grid0.coords t))
    (x0 : Vec F S32x1 .i32) (g : PrngReg) (fh0 : HbBuf0 (F := F) c hbM0_0) : Vec F S32x1 .f32 :=
  VO0_2.read (Elt F) (VO0_2.writes (Elt F) VO0_2.junk (kernelRun0_C c t arg2 harg2 arg3 harg3 arg4 harg4 hc0 hc1 x0 g fh0).2.1)

/-- What the windows of the two output columns hold after point `n`. -/
def outsAt0 (c : Dev nD) : (n : ℕ) → n < cfg0.N → Vec F S32x1 .f32 × Vec F S32x1 .f32
  | 0, hn => (out0_A_1 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) ((hcond0_1 ⟨0, hn⟩).mpr (by (try dsimp only); omega)) (iblk0 V c 0 ⟨0, hn⟩) default (V c main_arg0), out0_A_2 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) ((hcond0_1 ⟨0, hn⟩).mpr (by (try dsimp only); omega)) (iblk0 V c 0 ⟨0, hn⟩) default (V c main_arg0))
  | n + 1, hn =>
    if h0 : (n + 1) % 32 = 0 then
      if h1 : (n + 1) < 31 then
        (out0_A_1 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) ((hcond0_1 ⟨n + 1, hn⟩).mpr h1) (iblk0 V c 0 ⟨n + 1, hn⟩) default (V c main_arg0), out0_A_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) ((hcond0_1 ⟨n + 1, hn⟩).mpr h1) (iblk0 V c 0 ⟨n + 1, hn⟩) default (V c main_arg0))
      else
        False.elim (by have hN : n + 1 < 32 := lt_of_lt_of_eq hn (show cfg0.N = 32 from N_0); omega)
    else
      if h1 : (n + 1) < 31 then
        (out0_B_1 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk0 V c 0 ⟨n + 1, hn⟩) default (V c main_arg0), out0_B_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk0 V c 0 ⟨n + 1, hn⟩) default (V c main_arg0))
      else
        (out0_C_1 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (fun h => h1 ((hcond0_1 ⟨n + 1, hn⟩).mp h)) (iblk0 V c 0 ⟨n + 1, hn⟩) default (V c main_arg0), out0_C_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (fun h => h1 ((hcond0_1 ⟨n + 1, hn⟩).mp h)) (iblk0 V c 0 ⟨n + 1, hn⟩) default (V c main_arg0))

/-- What the outputs hold after a point of this kind. -/
theorem outsAt0_A (c : Dev nD) (t : Fin cfg0.N) (h0 : t.val % 32 = 0) (h1 : t.val < 31) :
    outsAt0 V c t.val t.isLt = (out0_A_1 c t (ms0_0 t) (hs0_0 t) (ms0_1 t) (hs0_1 t) (ms0_2 t) (hs0_2 t) ((hcond0_0 t).mpr h0) ((hcond0_1 t).mpr h1) (iblk0 V c 0 t) default (V c main_arg0), out0_A_2 c t (ms0_0 t) (hs0_0 t) (ms0_1 t) (hs0_1 t) (ms0_2 t) (hs0_2 t) ((hcond0_0 t).mpr h0) ((hcond0_1 t).mpr h1) (iblk0 V c 0 t) default (V c main_arg0)) := by
  obtain ⟨n, hn⟩ := t
  cases n with
  | zero => exact rfl
  | succ n => exact (dif_pos h0).trans ((dif_pos h1).trans rfl)

/-- What the outputs hold after a point of this kind. -/
theorem outsAt0_B (c : Dev nD) (t : Fin cfg0.N) (h0 : ¬t.val % 32 = 0) (h1 : t.val < 31) :
    outsAt0 V c t.val t.isLt = (out0_B_1 c t (ms0_0 t) (hs0_0 t) (ms0_1 t) (hs0_1 t) (ms0_2 t) (hs0_2 t) (fun h => h0 ((hcond0_0 t).mp h)) ((hcond0_1 t).mpr h1) (iblk0 V c 0 t) default (V c main_arg0), out0_B_2 c t (ms0_0 t) (hs0_0 t) (ms0_1 t) (hs0_1 t) (ms0_2 t) (hs0_2 t) (fun h => h0 ((hcond0_0 t).mp h)) ((hcond0_1 t).mpr h1) (iblk0 V c 0 t) default (V c main_arg0)) := by
  obtain ⟨n, hn⟩ := t
  cases n with
  | zero => exact (by exfalso; (try dsimp only at h0); exact absurd (Nat.zero_mod _) h0)
  | succ n => exact (dif_neg h0).trans ((dif_pos h1).trans rfl)

/-- What the outputs hold after a point of this kind. -/
theorem outsAt0_C (c : Dev nD) (t : Fin cfg0.N) (h0 : ¬t.val % 32 = 0) (h1 : ¬t.val < 31) :
    outsAt0 V c t.val t.isLt = (out0_C_1 c t (ms0_0 t) (hs0_0 t) (ms0_1 t) (hs0_1 t) (ms0_2 t) (hs0_2 t) (fun h => h0 ((hcond0_0 t).mp h)) (fun h => h1 ((hcond0_1 t).mp h)) (iblk0 V c 0 t) default (V c main_arg0), out0_C_2 c t (ms0_0 t) (hs0_0 t) (ms0_1 t) (hs0_1 t) (ms0_2 t) (hs0_2 t) (fun h => h0 ((hcond0_0 t).mp h)) (fun h => h1 ((hcond0_1 t).mp h)) (iblk0 V c 0 t) default (V c main_arg0)) := by
  obtain ⟨n, hn⟩ := t
  cases n with
  | zero => exact (by exfalso; (try dsimp only at h0); exact absurd (Nat.zero_mod _) h0)
  | succ n => exact (dif_neg h0).trans ((dif_neg h1).trans rfl)

/-- What holds between the points, apart from the windows: the generator in some state, the second call's staging buffers, and the ring before point `k`. -/
def PhiR (c : Dev nD) (k : ℕ) : sProp 𝕄 := iprop((∃ r, prngReg c r) ∗ othersS0 (F := F) c ∗ ringAt0_0 c (V c main_arg0) k)

/-- The run of the call: what its arrays hold at the start, what its windows hold after each point, and what is kept between points. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ t := PhiR V c t.val
  q _ := fullShare
  owed _ := 0

/-- The arrays hold at the start what the buffers hold. -/
theorem A_eq0 (c : Dev nD) (w : Fin cfg0.W) : (dat0 V c).A w = V c (Pipeline.arrRef spec0 w) := by
  dsimp only [dat0]

/-- What holds before a point is the ring with that point's number of copies started. -/
theorem PhiR_castSucc (c : Dev nD) (t : Fin cfg0.N) : (dat0 V c).Φ t.castSucc = PhiR V c t.val := by
  dsimp only [dat0]; simp only [Fin.coe_castSucc]
/-- What holds after a point is the ring with one more. -/
theorem PhiR_succ (c : Dev nD) (t : Fin cfg0.N) : (dat0 V c).Φ t.succ = PhiR V c (t.val + 1) := by
  dsimp only [dat0]; simp only [Fin.val_succ]

/-- What this window holds when the body ends. -/
theorem after0_0 (c : Dev nD) (t : Fin cfg0.N) : (dat0 V c).after 0 t = iblk0 V c 0 t := by dsimp only [dat0]
/-- What this window holds when the body ends. -/
theorem after0_1 (c : Dev nD) (t : Fin cfg0.N) : (dat0 V c).after 1 t = (outsAt0 V c t.val t.isLt).1 := by dsimp only [dat0]
/-- What this window holds when the body ends. -/
theorem after0_2 (c : Dev nD) (t : Fin cfg0.N) : (dat0 V c).after 2 t = (outsAt0 V c t.val t.isLt).2 := by dsimp only [dat0]

/-- This window holds its array's block when the body starts. -/
theorem before0_0 (c : Dev nD) (t : Fin cfg0.N) (d) : (dat0 V c).before 0 t d = iblk0 V c 0 t :=
  before0_0_of V (dat0 V c) (A_eq0 V c 0) (after0_0 V c) t d

/-- What the body is given at a grid point. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What the body leaves at a grid point. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1200000 in
/-- Given that, the body runs without fault and leaves this. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [after0_0, after0_1, after0_2]
  rw [PhiR_castSucc V c t, PhiR_succ V c t]
  unfold Dat.owesAt Pipeline.owesWithin
  rw [show (dat0 V c).owed t.castSucc = 0 from rfl, show (dat0 V c).owed t.succ = 0 from rfl]
  unfold PhiR ringAt0_0
  have hgN : grid0.N = 32 := N_0
  have hN : t.val < 32 := lt_of_lt_of_eq t.isLt (show cfg0.N = 32 from N_0)
  by_cases h0 : t.val % 32 = 0
  · by_cases h1 : t.val < 31
    · rw [outsAt0_A V c t h0 h1]
      unfold out0_A_1 out0_A_2; (try dsimp only)
      have hr0 := rstep0_0_A t ((hcond0_0 t).mpr h0) ((hcond0_1 t).mpr h1)
      obtain ⟨hK00, hK10⟩ := hr0
      rw [if_pos hK00, if_neg (show ¬t.val + 1 = 0 by omega)]
      rw [Ring.At₀_eq2' _ _ _ t.val hK00 (by decide : 2 ≤ 32), Ring.AtK2_one' _ _ _ _ _ t.val hK00 (by decide : 1 < 32)]
      iintro ⟨⟨⟨%g, Hg⟩, HRest, ⟨-, Hfr0_0_0, Hfr0_0_1⟩⟩, ⟨%W, -, HW⟩, ⟨%d0, H0⟩, ⟨%d1, H1⟩, ⟨%d2, H2⟩⟩
      iapply ((kernelRun0_A c t _ _ _ _ _ _ ((hcond0_0 t).mpr h0) ((hcond0_1 t).mpr h1) (iblk0 V c 0 t) g (V c main_arg0)).2.2 W _)
      isplitl [H0]; · iexact H0
      isplitl [H1]; · iexists _; iexact H1
      isplitl [H2]; · iexists _; iexact H2
      isplitl [Hg]; · iexact Hg
      isplitl [Hfr0_0_0]; · iexact Hfr0_0_0
      isplitl [Hfr0_0_1]; · iexact Hfr0_0_1
      isplitl [HW]; · iexact HW
      iintro ⟨H0, ⟨%e1, H1⟩, ⟨%e2, H2⟩, Hg, Hfl0_0', Hkp0_0', ⟨%W', HW'⟩⟩
      isplitl [Hg HRest Hfl0_0' Hkp0_0']
      · isplitl [Hg]; · iexact Hg
        isplitl [HRest]; · iexact HRest
        iapply Ring.with_homes₀
        isplitl [Hfl0_0']; · iexact Hfl0_0'
        iexact Hkp0_0'
      isplitl [HW']
      · iexists W'; isplitr; · ipureintro; exact fun _ _ => Or.inl trivial
        iexact HW'
      isplitl [H0]; · iexact H0
      isplitl [H1]
      · unfold owns; iexists _; isplitr
        swap; · iexact H1
        ipureintro; exact View.read_writes_of_cover _ _ _ _ _ (cover0_A_1 c _ _ _ _ _ _ _ _ _ _ _ _)
      unfold owns; iexists _; isplitr
      swap; · iexact H2
      ipureintro; exact View.read_writes_of_cover _ _ _ _ _ (cover0_A_2 c _ _ _ _ _ _ _ _ _ _ _ _)
    · exfalso; omega
  · by_cases h1 : t.val < 31
    · rw [outsAt0_B V c t h0 h1]
      unfold out0_B_1 out0_B_2; (try dsimp only)
      have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.AtK2_here _ _ _ _ _ t.val hK10 hKB0, Ring.AtK2_next _ _ _ _ _ t.val hK10 hKB0]
      iintro ⟨⟨⟨%g, Hg⟩, HRest, ⟨-, Hfl0_0, Hkp0_0⟩⟩, ⟨%W, -, HW⟩, ⟨%d0, H0⟩, ⟨%d1, H1⟩, ⟨%d2, H2⟩⟩
      iapply ((kernelRun0_B c t _ _ _ _ _ _ (fun h => h0 ((hcond0_0 t).mp h)) ((hcond0_1 t).mpr h1) (iblk0 V c 0 t) g (V c main_arg0)).2.2 W _)
      isplitl [H0]; · iexact H0
      isplitl [H1]; · iexists _; iexact H1
      isplitl [H2]; · iexists _; iexact H2
      isplitl [Hg]; · iexact Hg
      isplitl [Hfl0_0]; · iexact Hfl0_0
      isplitl [Hkp0_0]; · iexact Hkp0_0
      isplitl [HW]; · iexact HW
      iintro ⟨H0, ⟨%e1, H1⟩, ⟨%e2, H2⟩, Hg, Hfl0_0', Hkp0_0', ⟨%W', HW'⟩⟩
      isplitl [Hg HRest Hfl0_0' Hkp0_0']
      · isplitl [Hg]; · iexact Hg
        isplitl [HRest]; · iexact HRest
        iapply (Ring.with_homes (Idealize.SL.BI.Entails.refl _))
        isplitl [Hfl0_0']; · iexact Hfl0_0'
        iexact Hkp0_0'
      isplitl [HW']
      · iexists W'; isplitr; · ipureintro; exact fun _ _ => Or.inl trivial
        iexact HW'
      isplitl [H0]; · iexact H0
      isplitl [H1]
      · unfold owns; iexists _; isplitr
        swap; · iexact H1
        ipureintro; exact View.read_writes_of_cover _ _ _ _ _ (cover0_B_1 c _ _ _ _ _ _ _ _ _ _ _ _)
      unfold owns; iexists _; isplitr
      swap; · iexact H2
      ipureintro; exact View.read_writes_of_cover _ _ _ _ _ (cover0_B_2 c _ _ _ _ _ _ _ _ _ _ _ _)
    · rw [outsAt0_C V c t h0 h1]
      unfold out0_C_1 out0_C_2; (try dsimp only)
      have hr0 := rstep0_0_C t (fun h => h0 ((hcond0_0 t).mp h)) (fun h => h1 ((hcond0_1 t).mp h))
      obtain ⟨hK10, hKB0, hKs0⟩ := hr0
      rw [if_neg (show ¬t.val = 0 by omega), if_neg (show ¬t.val + 1 = 0 by omega)]
      rw [Ring.AtK2_here_last _ _ _ _ _ t.val hK10 hKB0, Ring.AtK2_next_last _ _ _ _ _ t.val hK10 hKB0]
      iintro ⟨⟨⟨%g, Hg⟩, HRest, ⟨-, Hfl0_0, Hkp0_0⟩⟩, ⟨%W, -, HW⟩, ⟨%d0, H0⟩, ⟨%d1, H1⟩, ⟨%d2, H2⟩⟩
      iapply ((kernelRun0_C c t _ _ _ _ _ _ (fun h => h0 ((hcond0_0 t).mp h)) (fun h => h1 ((hcond0_1 t).mp h)) (iblk0 V c 0 t) g (V c main_arg0)).2.2 W _)
      isplitl [H0]; · iexact H0
      isplitl [H1]; · iexists _; iexact H1
      isplitl [H2]; · iexists _; iexact H2
      isplitl [Hg]; · iexact Hg
      isplitl [Hfl0_0]; · iexact Hfl0_0
      isplitl [HW]; · iexact HW
      iintro ⟨H0, ⟨%e1, H1⟩, ⟨%e2, H2⟩, Hg, Hkp0_0', ⟨%W', HW'⟩⟩
      isplitl [Hg HRest Hkp0_0 Hkp0_0']
      · isplitl [Hg]; · iexact Hg
        isplitl [HRest]; · iexact HRest
        iapply (Ring.with_homes (Idealize.SL.BI.Entails.refl _))
        isplitl [Hkp0_0]; · iexact Hkp0_0
        iexact Hkp0_0'
      isplitl [HW']
      · iexists W'; isplitr; · ipureintro; exact fun _ _ => Or.inl trivial
        iexact HW'
      isplitl [H0]; · iexact H0
      isplitl [H1]
      · unfold owns; iexists _; isplitr
        swap; · iexact H1
        ipureintro; exact View.read_writes_of_cover _ _ _ _ _ (cover0_C_1 c _ _ _ _ _ _ _ _ _ _ _ _)
      unfold owns; iexists _; isplitr
      swap; · iexact H2
      ipureintro; exact View.read_writes_of_cover _ _ _ _ _ (cover0_C_2 c _ _ _ _ _ _ _ _ _ _ _ _)

/-- The call's body, as the program's table of bodies has it. -/
theorem defs₀_row0 (t : Fin cfg0.N) :
    defs₀ (F := F) .tc cfg0.body (cfg0.bodyArgs t (cfg0.slots t)) = bodyAt0 t := by
  unfold defs₀; rw [Defs.onTc_tc]

/-- The body meets the call's obligation at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The first call starts with its invariant. -/
theorem hin0 (c : Dev nD) : Pipeline.ΦD osem0 spec0 H0 V c ⊢ (dat0 V c).Φ 0 := by
  rw [PhiD0_eq, show (dat0 V c).Φ 0 = PhiR V c 0 from rfl]
  unfold PhiR
  iintro ⟨⟨HS, HRest⟩, Hg, ⟨Hq0, Hq1⟩, Hh0⟩
  isplitl [Hg]; · iexact Hg
  isplitl [HRest]; · iexact HRest
  iapply (ring0_0_in (F := F) V c)
  isplitl [HS]; · iexact HS
  isplitl [Hq0 Hq1]
  · isplitl [Hq0]; · iexact Hq0
    iexact Hq1
  iexact Hh0

/-- The first call ends with what it was given. -/
theorem hout0 (c : Dev nD) : (dat0 V c).Φ (Fin.last cfg0.N) ⊢ Pipeline.ΦD osem0 spec0 H0 V c := by
  rw [PhiD0_eq, show (dat0 V c).Φ (Fin.last cfg0.N) = PhiR V c grid0.N from rfl]
  unfold PhiR
  rw [show grid0.N = 32 by rw [N_0]]
  iintro ⟨Hg, HRest, HR⟩
  ihave HX := (ring0_0_out (F := F) V c) $$ HR
  icases HX with ⟨HS, ⟨Hq0, Hq1⟩, Hh0⟩
  isplitl [HS HRest]
  · isplitl [HS]; · iexact HS
    iexact HRest
  isplitl [Hg]; · iexact Hg
  isplitl [Hq0 Hq1]
  · isplitl [Hq0]; · iexact Hq0
    iexact Hq1
  iexact Hh0

end Cert.KernelIdeal.Whole

end
-- ==== Proof.KernelIdeal.Region1.lean ====
module

public import proofs.«01_k».proof.Proof.KernelIdeal.RunC
public import Idealize.ShloMosaic.Lib.Claim

/-! The second call, which makes the loss of the two columns in one point. -/

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The resources of the separation logic the runs are stated in. -/
local notation "𝕄" => MT nD τ sig Unit (Elt F) ℕ (Pipeline.UD sig nD τ) ℕ

variable (V : (c : Dev nD) → (b : Ref sig .tc) → Buf (Elt F) ((c : Thread nD τ).loc b))

/-- The block of window `w` at grid point `t`, as it lies in the window's array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A window that is only read holds its array's block when the body starts, whatever the rest of the run is. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- A window that is only read holds its array's block when the body starts, whatever the rest of the run is. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer, seen whole. -/
abbrev VO1_2 : View sig .tc .smem S1x1 .f32 := (Memref.whole cc1_stg2_0 : Memref sig .tc .smem S1x1 .f32).view
/-- The window's staging buffer at grid point `t`. -/
abbrev ms1_0 (t : Fin cfg1.N) : Memref sig .tc .vmem S1024x1 .f32 := win1_0.stage (cfg1.slots t 0)
/-- It is seen whole. -/
abbrev hs1_0 (t : Fin cfg1.N) : (ms1_0 t).IsWhole := hstage1_0 0
/-- The window's staging buffer at grid point `t`. -/
abbrev ms1_1 (t : Fin cfg1.N) : Memref sig .tc .vmem S1024x1 .f32 := win1_1.stage (cfg1.slots t 1)
/-- It is seen whole. -/
abbrev hs1_1 (t : Fin cfg1.N) : (ms1_1 t).IsWhole := hstage1_1 0
/-- The window's staging buffer at grid point `t`. -/
abbrev ms1_2 (t : Fin cfg1.N) : Memref sig .tc .smem S1x1 .f32 := win1_2.stage (cfg1.slots t 2)
/-- It is seen whole. -/
abbrev hs1_2 (t : Fin cfg1.N) : (ms1_2 t).IsWhole := hstage1_2 0

set_option maxHeartbeats 1000000 in
/-- The second call's body: run from its two columns, it ends with both unchanged and the piece found here written to the output. -/
noncomputable def kernelRun1_A (c : Dev nD) (arg0 : Memref sig .tc .vmem S1024x1 .f32) (harg0 : arg0.IsWhole) (arg1 : Memref sig .tc .vmem S1024x1 .f32) (harg1 : arg1.IsWhole) (arg2 : Memref sig .tc .smem S1x1 .f32) (harg2 : arg2.IsWhole)
    (x0 : Vec F S1024x1 .f32) (x1 : Vec F S1024x1 .f32) :
    { L2 : List (View.Piece (Elt F) S1x1 .f32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2)) -∗ K ⟨⟩))
          ⊢ wp frame (wpE (defs₀ (F := F)) Variants.none c none) E (cc1__loss_kernel arg0 harg0 arg1 harg1 arg2 harg2) K } := by
  refine ⟨?_, fun E K => ?run⟩
  case run =>
    simp only [cc1__loss_kernel_eq_skeleton]; unfold cc1__loss_kernel_skel
    unfold owns
    iintro ⟨⟨%f0, %hf0, H0⟩, ⟨%f1, %hf1, H1⟩, ⟨%d2, %f2, -, H2⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    iexists _; iexact H2

/-- The pieces that the body writes cover the whole output block. -/
theorem cover1_A_2 (c : Dev nD) (arg0 : Memref sig .tc .vmem S1024x1 .f32) (harg0 : arg0.IsWhole) (arg1 : Memref sig .tc .vmem S1024x1 .f32) (harg1 : arg1.IsWhole) (arg2 : Memref sig .tc .smem S1x1 .f32) (harg2 : arg2.IsWhole)
    (x0 : Vec F S1024x1 .f32) (x1 : Vec F S1024x1 .f32) (y : S1x1.Idx) :
    ∃ pc ∈ (kernelRun1_A c arg0 harg0 arg1 harg1 arg2 harg2 x0 x1).1, y ∈ pc.1.set :=
  View.cover_of_tiledL (kernelRun1_A c arg0 harg0 arg1 harg1 arg2 harg2 x0 x1).1 S1x1.size (by sl_kernel_rfl) y

/-- The output block that the written pieces make. -/
def out1_A_2 (c : Dev nD) (arg0 : Memref sig .tc .vmem S1024x1 .f32) (harg0 : arg0.IsWhole) (arg1 : Memref sig .tc .vmem S1024x1 .f32) (harg1 : arg1.IsWhole) (arg2 : Memref sig .tc .smem S1x1 .f32) (harg2 : arg2.IsWhole)
    (x0 : Vec F S1024x1 .f32) (x1 : Vec F S1024x1 .f32) : Vec F S1x1 .f32 :=
  VO1_2.read (Elt F) (VO1_2.writes (Elt F) VO1_2.junk (kernelRun1_A c arg0 harg0 arg1 harg1 arg2 harg2 x0 x1).1)

/-- The loss that the second call leaves in its output window. -/
def outsAt1 (c : Dev nD) (t : Fin cfg1.N) : Vec F S1x1 .f32 :=
  out1_A_2 c (ms1_0 t) (hs1_0 t) (ms1_1 t) (hs1_1 t) (ms1_2 t) (hs1_2 t) (iblk1 V c 0 t) (iblk1 V c 1 t)

/-- The run of the call: what its arrays hold at the start, what its windows hold after each point, and what is kept between points. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t)
  Φ _ := Pipeline.ΦA spec1 c
  q _ := fullShare
  owed _ := 0

/-- The arrays hold at the start what the buffers hold. -/
theorem A_eq1 (c : Dev nD) (w : Fin cfg1.W) : (dat1 V c).A w = V c (Pipeline.arrRef spec1 w) := by
  dsimp only [dat1]

/-- What this window holds when the body ends. -/
theorem after1_0 (c : Dev nD) (t : Fin cfg1.N) : (dat1 V c).after 0 t = iblk1 V c 0 t := by dsimp only [dat1]
/-- What this window holds when the body ends. -/
theorem after1_1 (c : Dev nD) (t : Fin cfg1.N) : (dat1 V c).after 1 t = iblk1 V c 1 t := by dsimp only [dat1]
/-- What this window holds when the body ends. -/
theorem after1_2 (c : Dev nD) (t : Fin cfg1.N) : (dat1 V c).after 2 t = (outsAt1 V c t) := by dsimp only [dat1]

/-- This window holds its array's block when the body starts. -/
theorem before1_0 (c : Dev nD) (t : Fin cfg1.N) (d) : (dat1 V c).before 0 t d = iblk1 V c 0 t :=
  before1_0_of V (dat1 V c) (A_eq1 V c 0) (after1_0 V c) t d
/-- This window holds its array's block when the body starts. -/
theorem before1_1 (c : Dev nD) (t : Fin cfg1.N) (d) : (dat1 V c).before 1 t d = iblk1 V c 1 t :=
  before1_1_of V (dat1 V c) (A_eq1 V c 1) (after1_1 V c) t d

/-- What the body is given at a grid point. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- What the body leaves at a grid point. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- Given that, the body runs without fault and leaves this. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A c _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 c _ _ _ _ _ _ _ _)

/-- The call's body, as the program's table of bodies has it. -/
theorem defs₀_row1 (t : Fin cfg1.N) :
    defs₀ (F := F) .tc cfg1.body (cfg1.bodyArgs t (cfg1.slots t)) = bodyAt1 t := by
  unfold defs₀; rw [Defs.onTc_tc]

/-- The body meets the call's obligation at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.KernelIdeal.Run.lean ====
module

public import proofs.«01_k».proof.Proof.KernelIdeal.Region0
public import proofs.«01_k».proof.Proof.KernelIdeal.Region1

/-! The whole program: what every buffer holds between its parts, and that it ends with exactly that and with all semaphores at zero. -/

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The resources of the separation logic the runs are stated in. -/
local notation "𝕄" => MT nD τ sig Unit (Elt F) ℕ (Pipeline.UD sig nD τ) ℕ

variable (m : (ℓ : Loc nD τ sig) → Buf (Elt F) ℓ) (ρ : Dev nD → PrngReg)

/-- The program's arguments, `x` and the labels. -/
abbrev argRefs : List (Ref sig .tc) := [main_arg0, main_arg1]

/-- These host lines allocate nothing. -/
theorem hostOps0_fresh : (hostOps0 : List (HloOp τ sig (Elt F))).Forall fun op => op.fresh = ∅ := by
  simp only [List.Forall]; repeat' constructor
/-- The buffers that these host lines write. -/
abbrev hostOps0_W : List (Ref sig .tc) := [main_call0_v0]
/-- They write no others. -/
theorem hostOps0_writes : (hostOps0 : List (HloOp τ sig (Elt F))).Forall fun op => op.writes ⊆ (hostOps0_W.map (Proc.devRef (τ := τ) .tc)).toFinset :=
  StableHlo.forall_writes_sub_of_map rfl
/-- No argument is among them. -/
theorem hostOps0_args : ∀ a ∈ argRefs, a ∉ hostOps0_W := ListAll.forall_mem_of_all_decide (by decide +kernel)

/-- These host lines allocate nothing. -/
theorem hostOps2_fresh : (hostOps2 : List (HloOp τ sig (Elt F))).Forall fun op => op.fresh = ∅ := by
  simp only [List.Forall]; repeat' constructor
/-- The buffers that these host lines write. -/
abbrev hostOps2_W : List (Ref sig .tc) := [main_v0]
/-- They write no others. -/
theorem hostOps2_writes : (hostOps2 : List (HloOp τ sig (Elt F))).Forall fun op => op.writes ⊆ (hostOps2_W.map (Proc.devRef (τ := τ) .tc)).toFinset :=
  StableHlo.forall_writes_sub_of_map rfl
/-- No argument is among them. -/
theorem hostOps2_args : ∀ a ∈ argRefs, a ∉ hostOps2_W := ListAll.forall_mem_of_all_decide (by decide +kernel)

/-- What the buffers hold at the start. -/
abbrev W0 : Dev nD → Valuation τ sig (Elt F) := fun c b => (s₀ m ρ).mem ((c : Dev nD), b)
/-- Both arguments are still what they were. -/
theorem W0_args (c : Dev nD) : ∀ a ∈ argRefs, W0 m ρ c (Proc.devRef .tc a) = m ((c : Thread nD τ).loc a) := fun _ _ => rfl
/-- What they hold after the host lines before the first call. -/
abbrev W1 : Dev nD → Valuation τ sig (Elt F) := fun c => StableHlo.after hostOps0 (W0 m ρ c)
/-- A buffer that these host lines do not write is unchanged. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Both arguments are still what they were. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- What each buffer holds as the first call starts. -/
abbrev V1 : (c : Dev nD) → (b : Ref sig .tc) → Buf (Elt F) ((c : Thread nD τ).loc b) := fun c b => W1 m ρ c b
/-- What they hold after the first call. -/
def W2 (c : Dev nD) : Valuation τ sig (Elt F) :=
  Pipeline.withArrays spec0 c (W1 m ρ c) fun w => (dat0 (V1 m ρ) c).arrAt w cfg0.N
/-- The call's arrays hold what its run leaves in them. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is none of the call's arrays is unchanged. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is none of the call's outputs is unchanged. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- No argument is an output of the call. -/
theorem argsIn0 : ∀ a ∈ argRefs, ∀ w : Fin cfg0.W, Pipeline.arrRef spec0 w = a → (cfg0.win w).isOut = false :=
  ListAll.forall_mem_of_all_decide (by decide +kernel)
/-- Both arguments are still what they were. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- What each buffer holds between the two calls. -/
abbrev V2 : (c : Dev nD) → (b : Ref sig .tc) → Buf (Elt F) ((c : Thread nD τ).loc b) := fun c b => W2 m ρ c b
/-- The call's arrays afterwards, as buffers. -/
theorem hF0 (c : Dev nD) (w : Fin cfg0.W) : (dat0 (V1 m ρ) c).arrAt w cfg0.N = V2 m ρ c (Pipeline.arrRef spec0 w) :=
  (W2_arr m ρ c w).symm
/-- The call changes no other buffer. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- What they hold after the second call. -/
def W3 (c : Dev nD) : Valuation τ sig (Elt F) :=
  Pipeline.withArrays spec1 c (W2 m ρ c) fun w => (dat1 (V2 m ρ) c).arrAt w cfg1.N
/-- The call's arrays hold what its run leaves in them. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- A buffer that is none of the call's arrays is unchanged. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is none of the call's outputs is unchanged. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- No argument is an output of the call. -/
theorem argsIn1 : ∀ a ∈ argRefs, ∀ w : Fin cfg1.W, Pipeline.arrRef spec1 w = a → (cfg1.win w).isOut = false :=
  ListAll.forall_mem_of_all_decide (by decide +kernel)
/-- Both arguments are still what they were. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- What each buffer holds after the second call. -/
abbrev V3 : (c : Dev nD) → (b : Ref sig .tc) → Buf (Elt F) ((c : Thread nD τ).loc b) := fun c b => W3 m ρ c b
/-- The call's arrays afterwards, as buffers. -/
theorem hF1 (c : Dev nD) (w : Fin cfg1.W) : (dat1 (V2 m ρ) c).arrAt w cfg1.N = V3 m ρ c (Pipeline.arrRef spec1 w) :=
  (W3_arr m ρ c w).symm
/-- The call changes no other buffer. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- What they hold at the end, after the host lines behind the second call. -/
abbrev W4 : Dev nD → Valuation τ sig (Elt F) := fun c => StableHlo.after hostOps2 (W3 m ρ c)
/-- A buffer that these host lines do not write is unchanged. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- Both arguments are still what they were. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-- `x` is unchanged at the end. -/
theorem W4_main_arg0 (c : Dev nD) : W4 m ρ c (Proc.devRef .tc main_arg0) = m ((c : Thread nD τ).loc main_arg0) :=
  W4_args m ρ c main_arg0 (by decide)
/-- The labels are unchanged at the end. -/
theorem W4_main_arg1 (c : Dev nD) : W4 m ρ c (Proc.devRef .tc main_arg1) = m ((c : Thread nD τ).loc main_arg1) :=
  W4_args m ρ c main_arg1 (by decide)

/-- Both calls' launches are admissible. -/
abbrev adm : (p : Fin 2) → (pcfgs (F := F) p).Adm := fun p => (cfgs p).toPCfg_adm
/-- The description of each call's run, from what the buffers hold as it starts. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
/-- No loop in the program needs a variant. -/
abbrev 𝒱₀ : Variants := Variants.none
/-- No semaphore has tallies waiting. -/
abbrev L : GSem nD τ sig → Finset Unit := fun _ => ∅
/-- No semaphore needs a level. -/
abbrev lv : GSem nD τ sig → Unit → ℕ := fun _ _ => 0
/-- What each part passes on besides the buffers: the generator in some state, and no debt on any semaphore. -/
abbrev R (c : Dev nD) : sProp 𝕄 := iprop((∃ r, prngReg c r) ∗ ∃ W, owes (c : Thread nD τ) (0 : CellTallies nD τ sig Unit) W)
/-- A run of host lines as a part of the program. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer that outlives the calls is among those held throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the program ends with: every lasting buffer as computed, and the generator in some state. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The first call as a part of the program. -/
def reg0 : Pipeline.RegionSeg (pcfgs (F := F)) adm (pdats m ρ) () defs₀ 𝒱₀ L lv 0 where
  win := launch0.win.to₀
  block_pos := launch0.block_pos
  stage_whole := launch0.stage_whole
  K := Fin 2
  osem := osem0
  ho := ownSemFacts0
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} V1 m ρ c b))
  Y c := iprop((∃ r, prngReg c r) ∗ (bigSep H0 fun b => (((c : Thread nD τ)).loc b) ↦{fullShare} V1 m ρ c b))
  Z c := bigSep (Pipeline.restRefs sig spec0 \ H0) fun b => (((c : Thread nD τ)).loc b) ↦{fullShare} V1 m ρ c b
  hentry c := by
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    have h := hin0 (V1 m ρ) c
    rw [Pipeline.ΦD_eq] at h
    rw [show (pdats m ρ 0 c).Φ 0 = (dat0 (V1 m ρ) c).Φ 0 from rfl]
    refine BIBase.Entails.trans ?_ h
    iintro ⟨⟨Hp, Ho, HH⟩, -, Hr⟩
    isplitl [Hr]; · iexact Hr
    isplitl [Hp]; · iexact Hp
    isplitl [Ho]; · iexact Ho
    iexact HH
  hout c := by
    have h := hout0 (V1 m ρ) c
    rw [Pipeline.ΦD_eq] at h
    rw [show (pdats m ρ 0 c).Φ (Fin.last _) = (dat0 (V1 m ρ) c).Φ (Fin.last cfg0.N) from rfl]
    refine BIBase.Entails.trans h ?_
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a part of the program. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's parts, in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is its parts, one after another. -/
theorem main_run (c : Dev nD) : main (F := F) c = Pipeline.Seg.run (segs m ρ) := (main_chain c).trans (by chain_rfl)

/-- Every semaphore belongs to one of the calls. -/
theorem no_unscoped : ∀ sm : SemLoc sig, sm.isScoped .tc = true := by decide

set_option backward.isDefEq.respectTransparency.types false in
/-- Every run of the program ends without fault, every lasting buffer holding what was computed for it, and every semaphore at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- Every run of the program ends without fault, both arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c)⟩, h.2⟩) (run_all m ρ)

/-- Every run of the program ends with the loss that was computed, both arguments unchanged. -/
theorem run_result : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨h.1 c _ (mem_uc main_v0 (by decide)),
       (h.1 c _ (mem_uc main_arg0 (by decide))).trans (W4_main_arg0 m ρ c),
       (h.1 c _ (mem_uc main_arg1 (by decide))).trans (W4_main_arg1 m ρ c)⟩) (run_all m ρ)

end Cert.KernelIdeal.Whole

end
-- ==== Proof.KernelIdeal.Block.lean ====
module

public import proofs.«01_k».proof.Proof.KernelIdeal.Region0
public import Idealize.ShloMosaic.Lib.Pipeline.Value
public import Idealize.ShloMosaic.Lib.VecWindow

/-! What one grid point of the first call computes from its block of `x`, its labels and the words it draws. -/

@[expose] public section

noncomputable section

namespace Cert.KernelIdeal.Whole

open Idealize.ShloMosaic Idealize.ShloMosaic.TcCoe Idealize.SL.Sem
open Cert.KernelIdeal Cert.KernelIdeal.Gen

variable {F : FTy → Type} [FloatOps F] [Named F]

/-- The block of `x` that grid point `t` reads out of its ring slot. -/
abbrev landed (c : Dev nD) (t : Fin cfg0.N) (x : HbBuf0 (F := F) c hbM0_0) : Vec F S1x32x100000 .f32 := kernelRun0_B.sl.v33 c t x

/-- The random words grid point `t` draws. -/
abbrev drawn (t : Fin cfg0.N) : IVec S32x100000 32 := kernelRun0_B.sl.r t

/-- At the first grid point the body reads the same block as at those in the middle. -/
theorem v33_A (c : Dev nD) (t : Fin cfg0.N) (x : HbBuf0 (F := F) c hbM0_0) : kernelRun0_A.sl.v33 c t x = landed c t x := rfl
/-- At the last grid point too. -/
theorem v33_C (c : Dev nD) (t : Fin cfg0.N) (x : HbBuf0 (F := F) c hbM0_0) : kernelRun0_C.sl.v33 c t x = landed c t x := rfl

/-- Each element of the block read at point `t` is that of block `t` of `x`, with the leading axis of length 1 dropped. -/
theorem landed_apply (c : Dev nD) (t : Fin cfg0.N) (x : HbBuf0 (F := F) c hbM0_0) (y : S1x32x100000.Idx) :
    landed c t x y = (srcB0_0 (Ring.bk 32 t)).view.read (Elt F) x
      ((Shape.reshapeEquiv  squeezes_S1x32x100000_S32x100000.numel_eq).symm y) := by
  unfold landed kernelRun0_B.sl.v33
  refine (congrFun (View.readAt_unit_congr (Val := Elt F) scM0_0.view (coff0_0_10 t) _ (inb_slot0_0 (Ring.sl 2 t.val)) _) y).trans ?_
  have h := View.read_writes_whole (Val := Elt F) (rslot0_0 (Ring.sl 2 t)).view (rslot0_0 (Ring.sl 2 t)).view.junk
    (ReadAs.same.apply (View.read (Elt F) (srcB0_0 (Ring.bk 32 t)).view x))
  have h2 := congrFun h ((Shape.reshapeEquiv  squeezes_S1x32x100000_S32x100000.numel_eq).symm y)
  refine Eq.trans ?_ h2
  generalize (rslot0_0 (Ring.sl 2 t)).view.writes (Elt F) _ _ = g
  show View.read (Elt F) scM0_0.view g ((Rect.unit (s := S2x32x100000) ![(Ring.sl 2 t.val).val, 0, 0] S1x32x100000.size (inb_slot0_0 _)).emb y) = View.read (Elt F) scM0_0.view g ((Rect.unit (s := S2x32x100000) ![(Ring.sl 2 t.val).val, 0, 0] S1x32x100000.size (inb_slot0_0 _)).emb (Shape.reshapeEquiv _ (Equiv.symm _ y)))
  rw [Equiv.apply_symm_apply]

/-- The offset (0, 0) is zero on both axes. -/
theorem zero2 : (![0, 0] : Fin 2 → ℕ) = fun _ => 0 := by decide

/-- The first output of the first point: each row's log-probability of its label. -/
theorem outA_1 (c : Dev nD) (t : Fin cfg0.N) (arg2 : Memref sig .tc .vmem S32x1 .i32) (harg2 : arg2.IsWhole)
    (arg3 : Memref sig .tc .vmem S32x1 .f32) (harg3 : arg3.IsWhole) (arg4 : Memref sig .tc .vmem S32x1 .f32) (harg4 : arg4.IsWhole)
    (hc0 : cond0_0 (grid0.coords t)) (hc1 : cond0_1 (grid0.coords t)) (y : Vec F S32x1 .i32) (g : PrngReg) (x : HbBuf0 (F := F) c hbM0_0) :
    out0_A_1 c t arg2 harg2 arg3 harg3 arg4 harg4 hc0 hc1 y g x = k0_pay5 (landed c t x) y := by
  unfold out0_A_1
  rw [View.read_writes_eq_canon _ _ _ (cover0_A_1 c t arg2 harg2 arg3 harg3 arg4 harg4 hc0 hc1 y g x)]
  unfold kernelRun0_A
  dsimp only
  refine (View.canon_unit_zero (Val := Elt F) (S := S32x1) zero2 _ _).trans ?_
  exact congrArg (k0_pay5 (landed c t x)) ((View.readAt_full arg2.view _ _).trans (harg2.read_unread _))

/-- The second output of the first point: each row's log-probability of the element sampled with the drawn words. -/
theorem outA_2 (c : Dev nD) (t : Fin cfg0.N) (arg2 : Memref sig .tc .vmem S32x1 .i32) (harg2 : arg2.IsWhole)
    (arg3 : Memref sig .tc .vmem S32x1 .f32) (harg3 : arg3.IsWhole) (arg4 : Memref sig .tc .vmem S32x1 .f32) (harg4 : arg4.IsWhole)
    (hc0 : cond0_0 (grid0.coords t)) (hc1 : cond0_1 (grid0.coords t)) (y : Vec F S32x1 .i32) (g : PrngReg) (x : HbBuf0 (F := F) c hbM0_0) :
    out0_A_2 c t arg2 harg2 arg3 harg3 arg4 harg4 hc0 hc1 y g x
      = k0_pay1 (k0_pay3 (landed c t x)) (k0_pay4 (landed c t x) (drawn t)) := by
  unfold out0_A_2
  rw [View.read_writes_eq_canon _ _ _ (cover0_A_2 c t arg2 harg2 arg3 harg3 arg4 harg4 hc0 hc1 y g x)]
  unfold kernelRun0_A
  dsimp only
  refine (View.canon_unit_zero (Val := Elt F) (S := S32x1) zero2 _ _).trans ?_
  rfl

/-- The first output of a point in the middle: each row's log-probability of its label. -/
theorem outB_1 (c : Dev nD) (t : Fin cfg0.N) (arg2 : Memref sig .tc .vmem S32x1 .i32) (harg2 : arg2.IsWhole)
    (arg3 : Memref sig .tc .vmem S32x1 .f32) (harg3 : arg3.IsWhole) (arg4 : Memref sig .tc .vmem S32x1 .f32) (harg4 : arg4.IsWhole)
    (hc0 : ¬cond0_0 (grid0.coords t)) (hc1 : cond0_1 (grid0.coords t)) (y : Vec F S32x1 .i32) (g : PrngReg) (x : HbBuf0 (F := F) c hbM0_0) :
    out0_B_1 c t arg2 harg2 arg3 harg3 arg4 harg4 hc0 hc1 y g x = k0_pay5 (landed c t x) y := by
  unfold out0_B_1
  rw [View.read_writes_eq_canon _ _ _ (cover0_B_1 c t arg2 harg2 arg3 harg3 arg4 harg4 hc0 hc1 y g x)]
  unfold kernelRun0_B
  dsimp only
  refine (View.canon_unit_zero (Val := Elt F) (S := S32x1) zero2 _ _).trans ?_
  exact congrArg (k0_pay5 (landed c t x)) ((View.readAt_full arg2.view _ _).trans (harg2.read_unread _))

/-- The second output of a point in the middle: each row's log-probability of the element sampled with the drawn words. -/
theorem outB_2 (c : Dev nD) (t : Fin cfg0.N) (arg2 : Memref sig .tc .vmem S32x1 .i32) (harg2 : arg2.IsWhole)
    (arg3 : Memref sig .tc .vmem S32x1 .f32) (harg3 : arg3.IsWhole) (arg4 : Memref sig .tc .vmem S32x1 .f32) (harg4 : arg4.IsWhole)
    (hc0 : ¬cond0_0 (grid0.coords t)) (hc1 : cond0_1 (grid0.coords t)) (y : Vec F S32x1 .i32) (g : PrngReg) (x : HbBuf0 (F := F) c hbM0_0) :
    out0_B_2 c t arg2 harg2 arg3 harg3 arg4 harg4 hc0 hc1 y g x
      = k0_pay1 (k0_pay3 (landed c t x)) (k0_pay4 (landed c t x) (drawn t)) := by
  unfold out0_B_2
  rw [View.read_writes_eq_canon _ _ _ (cover0_B_2 c t arg2 harg2 arg3 harg3 arg4 harg4 hc0 hc1 y g x)]
  unfold kernelRun0_B
  dsimp only
  refine (View.canon_unit_zero (Val := Elt F) (S := S32x1) zero2 _ _).trans ?_
  rfl

/-- The first output of the last point: each row's log-probability of its label. -/
theorem outC_1 (c : Dev nD) (t : Fin cfg0.N) (arg2 : Memref sig .tc .vmem S32x1 .i32) (harg2 : arg2.IsWhole)
    (arg3 : Memref sig .tc .vmem S32x1 .f32) (harg3 : arg3.IsWhole) (arg4 : Memref sig .tc .vmem S32x1 .f32) (harg4 : arg4.IsWhole)
    (hc0 : ¬cond0_0 (grid0.coords t)) (hc1 : ¬cond0_1 (grid0.coords t)) (y : Vec F S32x1 .i32) (g : PrngReg) (x : HbBuf0 (F := F) c hbM0_0) :
    out0_C_1 c t arg2 harg2 arg3 harg3 arg4 harg4 hc0 hc1 y g x = k0_pay5 (landed c t x) y := by
  unfold out0_C_1
  rw [View.read_writes_eq_canon _ _ _ (cover0_C_1 c t arg2 harg2 arg3 harg3 arg4 harg4 hc0 hc1 y g x)]
  unfold kernelRun0_C
  dsimp only
  refine (View.canon_unit_zero (Val := Elt F) (S := S32x1) zero2 _ _).trans ?_
  exact congrArg (k0_pay5 (landed c t x)) ((View.readAt_full arg2.view _ _).trans (harg2.read_unread _))

/-- The second output of the last point: each row's log-probability of the element sampled with the drawn words. -/
theorem outC_2 (c : Dev nD) (t : Fin cfg0.N) (arg2 : Memref sig .tc .vmem S32x1 .i32) (harg2 : arg2.IsWhole)
    (arg3 : Memref sig .tc .vmem S32x1 .f32) (harg3 : arg3.IsWhole) (arg4 : Memref sig .tc .vmem S32x1 .f32) (harg4 : arg4.IsWhole)
    (hc0 : ¬cond0_0 (grid0.coords t)) (hc1 : ¬cond0_1 (grid0.coords t)) (y : Vec F S32x1 .i32) (g : PrngReg) (x : HbBuf0 (F := F) c hbM0_0) :
    out0_C_2 c t arg2 harg2 arg3 harg3 arg4 harg4 hc0 hc1 y g x
      = k0_pay1 (k0_pay3 (landed c t x)) (k0_pay4 (landed c t x) (drawn t)) := by
  unfold out0_C_2
  rw [View.read_writes_eq_canon _ _ _ (cover0_C_2 c t arg2 harg2 arg3 harg3 arg4 harg4 hc0 hc1 y g x)]
  unfold kernelRun0_C
  dsimp only
  refine (View.canon_unit_zero (Val := Elt F) (S := S32x1) zero2 _ _).trans ?_
  rfl

/-- What grid point `t` leaves in its two output blocks. -/
theorem outsAt (V : (c : Dev nD) → (b : Ref sig .tc) → Buf (Elt F) ((c : Thread nD τ).loc b)) (c : Dev nD) (t : Fin cfg0.N) :
    outsAt0 V c t.val t.isLt = (k0_pay5 (landed c t (V c main_arg0)) (iblk0 V c 0 t),
      k0_pay1 (k0_pay3 (landed c t (V c main_arg0))) (k0_pay4 (landed c t (V c main_arg0)) (drawn t))) := by
  by_cases h0 : t.val % 32 = 0
  · by_cases h1 : t.val < 31
    · rw [outsAt0_A V c t h0 h1, outA_1, outA_2]
    · exact absurd h0 (by have h2 := t.isLt; have h3 : cfg0.N = 32 := N_0; omega)
  · by_cases h1 : t.val < 31
    · rw [outsAt0_B V c t h0 h1, outB_1, outB_2]
    · rw [outsAt0_C V c t h0 h1, outC_1, outC_2]

end Cert.KernelIdeal.Whole
-- ==== Proof.KernelIdeal.Rows.lean ====
module

public import proofs.«01_k».proof.Proof.Gen.KernelIdeal.Skeleton
public import Idealize.ShloMosaic.Lib.Pointwise

@[expose] public section

set_option maxRecDepth 16384

/-! # The kernel's values, entry by entry -/

noncomputable section

namespace Cert.KernelIdeal.Whole

open Idealize.ShloMosaic Idealize.ShloMosaic.TcCoe Idealize.SL.Sem
open Cert.KernelIdeal Cert.KernelIdeal.Gen
open Idealize.ShloMosaic.Pointwise

variable [Facts]

/-- The score the kernel gives to a column with entry `x` and random word `w`. -/
def kscore (x : EReal) (w : BitVec 32) : EReal :=
  x * Named.named (F := Ideal) κ "inv_temp" (φ := .f32) 0x3FB6DB6E#32
    + (0 - Ideal.log (0 - Ideal.log (max
        (Ideal.ofBits .f32 (IntOp.ori (IntOp.shrui .vector w 9#32) 0x3F800000#32) - 1)
        (Ideal.ofBits .f32 0x00800000#32))))

/-- The logarithm of the sum of exponentials of a row of the block. -/
theorem lse_apply (v : Vec Ideal S1x32x100000 .f32) (r : Fin 32) (l : Fin 1) :
    k0_pay3 v (ix2 r l) = Ideal.log (∑ k : Fin 100000, Ideal.exp (v (ix3 0 r k))) := by
  pointwise [k0_pay3, k0_pay2]

/-- The chosen column of a row: a sum over the columns that keeps the one asked for, minus the logarithm above. -/
theorem chosen_apply (v : Vec Ideal S1x32x100000 .f32) (y : Vec Ideal S32x1 .i32) (r : Fin 32) (l : Fin 1) :
    k0_pay5 v y (ix2 r l)
      = (∑ x : Fin 100000, Scalar.select (IntOp.cmpi .eq (BitVec.ofNat 32 ↑x) (y (ix2 r 0))) (v (ix3 0 r x)) (0 : EReal))
        - k0_pay3 v (ix2 r l) := by
  pointwise [k0_pay5, k0_pay2]

/-- The largest entry of a row among the columns with the largest score. -/
theorem sampled_apply (v : Vec Ideal S1x32x100000 .f32) (w : IVec S32x100000 32) (r : Fin 32) (l : Fin 1) :
    k0_pay4 v w (ix2 r l)
      = Finset.fold max (Ideal.ofBits .f32 0xFF800000#32) (fun x : Fin 100000 =>
          if kscore (v (ix3 0 r x)) (w (ix2 r x))
              = Finset.fold max (Ideal.ofBits .f32 0xFF800000#32)
                  (fun x : Fin 100000 => kscore (v (ix3 0 r x)) (w (ix2 r x))) Finset.univ
            then v (ix3 0 r x) else Ideal.ofBits .f32 0xFF800000#32) Finset.univ := by
  unfold kscore
  pointwise [k0_pay4, k0_pay2]

/-- The sampled column of a row: the largest entry above, minus the logarithm. -/
theorem minus_apply (a b : Vec Ideal S32x1 .f32) (r : Fin 32) (l : Fin 1) :
    (k0_pay1 (F := Ideal) a b (ix2 r l) : EReal) = b (ix2 r l) - a (ix2 r l) := by
  pointwise [k0_pay1]

/-- The logarithm of the sum of exponentials of a row. -/
def lse (x : Fin 100000 → EReal) : EReal := Ideal.log (∑ k, Ideal.exp (x k))

/-- The log-probability of the column asked for, as the kernel finds it. -/
def kchosen (x : Fin 100000 → EReal) (y : BitVec 32) : EReal :=
  (∑ k : Fin 100000, Scalar.select (IntOp.cmpi .eq (BitVec.ofNat 32 ↑k) y) (x k) (0 : EReal)) - lse x

/-- The log-probability of the sampled column, as the kernel finds it. -/
def ksampled (x : Fin 100000 → EReal) (w : Fin 100000 → BitVec 32) : EReal :=
  Finset.fold max (Ideal.ofBits .f32 0xFF800000#32) (fun k : Fin 100000 =>
      if kscore (x k) (w k)
          = Finset.fold max (Ideal.ofBits .f32 0xFF800000#32) (fun k : Fin 100000 => kscore (x k) (w k)) Finset.univ
        then x k else Ideal.ofBits .f32 0xFF800000#32) Finset.univ - lse x

/-- A row of the first output block, from the row of `x` and the label it is given. -/
theorem chosen_of (v : Vec Ideal S1x32x100000 .f32) (y : Vec Ideal S32x1 .i32) (r : Fin 32) (l : Fin 1)
    (X : Fin 100000 → EReal) (n : BitVec 32) (hv : ∀ k, v (ix3 0 r k) = X k) (hy : y (ix2 r 0) = n) :
    k0_pay5 v y (ix2 r l) = kchosen X n := by
  rw [chosen_apply, lse_apply, hy]
  unfold kchosen lse
  simp only [hv]

/-- A row of the second output block, from the row of `x` and the words it is given. -/
theorem sampled_of (v : Vec Ideal S1x32x100000 .f32) (w : IVec S32x100000 32) (r : Fin 32) (l : Fin 1)
    (X : Fin 100000 → EReal) (W : Fin 100000 → BitVec 32) (hv : ∀ k, v (ix3 0 r k) = X k)
    (hw : ∀ k, w (ix2 r k) = W k) :
    k0_pay1 (k0_pay3 v) (k0_pay4 v w) (ix2 r l) = ksampled X W := by
  rw [minus_apply, lse_apply, sampled_apply]
  unfold ksampled lse
  simp only [hv, hw]

/-- The log-odds the loss is taken of, as the kernel writes them. -/
def kodds (a b : EReal) : EReal :=
  a - b - (Ideal.log1p (0 - Ideal.exp a) - Ideal.log1p (0 - Ideal.exp b))

/-- The loss from the two columns. -/
theorem loss_apply (v w : Vec Ideal S1024x1 .f32) :
    k1_pay1 v w = Ideal.ofBits .f32 0x3DCCCCCD#32 * Ideal.div (∑ x : Fin 1024, ∑ _l : Fin 1,
        (min (kodds (v (ix2 x 0)) (w (ix2 x 0))) 0
          - Ideal.log1p (Ideal.exp (0 - FloatOps.absf (F := Ideal) (φ := .f32) (kodds (v (ix2 x 0)) (w (ix2 x 0)))))))
        (Ideal.ofBits .f32 0x44800000#32)
      + (0 - Ideal.div (∑ x : Fin 1024, ∑ _l : Fin 1, v (ix2 x 0)) (Ideal.ofBits .f32 0x44800000#32)) := by
  unfold kodds
  pointwise [k1_pay1]

end Cert.KernelIdeal.Whole

end

end
-- ==== Proof.Math.Words.lean ====
module

public import Idealize.ShloMosaic.Signature.Words
public import Idealize.ShloMosaic.Lib.Pointwise

@[expose] public section

/-! # The random words

Both programs seed the generator with the same two words at every block of 32 rows and draw one block of words. -/

noncomputable section

namespace Cert.Loss

open Idealize.ShloMosaic Idealize.ShloMosaic.Pointwise

/-- The words drawn for the block of rows number `t`. -/
def words (t : ℕ) : (⟨2, ![32, 100000]⟩ : Shape).Idx → BitVec 32 :=
  prngBits ⟨2, ![32, 100000]⟩ (by decide) fun j =>
    prngStream (List.map (fun w : BitVec 32 => w.toNat.toUInt32) [1234567#32, BitVec.ofNat 32 t]) (0 + j)

/-- The word for row `i` and column `k`. -/
def word (i : Fin 1024) (k : Fin 100000) : BitVec 32 :=
  words (i.val / 32) (ix2 ⟨i.val % 32, Nat.mod_lt _ (by decide)⟩ k)

/-- The word for row `r` of block `t`. -/
theorem word_at (t : ℕ) (r : Fin 32) (i : Fin 1024) (k : Fin 100000) (h : i.val = t * 32 + r.val) :
    word i k = words t (ix2 r k) := by
  have hr := r.isLt
  have h1 : i.val / 32 = t := by omega
  have h2 : (⟨i.val % 32, Nat.mod_lt _ (by decide)⟩ : Fin 32) = r := by
    apply Fin.ext; dsimp only; omega
  unfold word
  rw [h1, h2]

end Cert.Loss

end

end
-- ==== Proof.KernelIdeal.Arrays.lean ====
module

public import proofs.«01_k».proof.Proof.KernelIdeal.Block
public import proofs.«01_k».proof.Proof.KernelIdeal.Rows
public import proofs.«01_k».proof.Proof.Math.Words
public import Idealize.ShloMosaic.Lib.Pipeline.ValueKit
public import Idealize.ShloMosaic.Lib.ValueLayout

@[expose] public section

set_option maxRecDepth 16384

/-! # The two columns the first call leaves -/

noncomputable section

namespace Cert.KernelIdeal.Whole

open Idealize.ShloMosaic Idealize.ShloMosaic.TcCoe Idealize.SL.Sem
open Cert.KernelIdeal Cert.KernelIdeal.Gen
open Idealize.ShloMosaic.Pointwise

/-- The block number of every grid point, in the three windows. -/
theorem index0 : ∀ t : Fin cfg0.N, win0_0.index t = ![t.val, 0] ∧ win0_1.index t = ![t.val, 0]
    ∧ win0_2.index t = ![t.val, 0] ∧ (grid0.coords t 0).val = t.val ∧ (Ring.bk 32 t.val).val = t.val :=
  (by decide +kernel : ∀ t : Fin grid0.N, win0_0.index t = ![t.val, 0] ∧ win0_1.index t = ![t.val, 0]
    ∧ win0_2.index t = ![t.val, 0] ∧ (grid0.coords t 0).val = t.val ∧ (Ring.bk 32 t.val).val = t.val)

/-- The words a grid point draws. -/
theorem drawn_eq (t : Fin cfg0.N) : drawn t = Cert.Loss.words t.val := by
  unfold drawn kernelRun0_B.sl.r Cert.Loss.words
  dsimp only
  rw [(index0 t).2.2.2.1]

/-- The row of the array that row `r` of block `t` is. -/
def row (t : Fin cfg0.N) (r : Fin 32) : Fin 1024 := ⟨32 * t.val + r.val, by
  have h := t.isLt; have h3 : cfg0.N = 32 := N_0; have := r.isLt; omega⟩

/-- The block a grid point reads is the block of its rows. -/
theorem landed_row (c : Dev nD) (t : Fin cfg0.N) (x : HbBuf0 (F := Ideal) c hbM0_0) (r : Fin 32) (k : Fin 100000) :
    landed (F := Ideal) c t x (ix3 0 r k) = x (ix2 (row t r) k) := by
  rw [landed_apply]
  have h : (Shape.reshapeEquiv squeezes_S1x32x100000_S32x100000.numel_eq).symm (ix3 0 r k) = ix2 r k := by
    rw [Equiv.symm_apply_eq]
    exact (ValueIdx.reshapeEquiv_ix2_1ab _ r k).symm
  rw [h]
  show x ((srcB0_0 (Ring.bk 32 t)).view.emb (ix2 r k)) = x (ix2 (row t r) k)
  refine congrArg x (funext fun a => Fin.ext ?_)
  have hb := (index0 t).2.2.2.2
  match a with
  | ⟨0, _⟩ =>
    show 32 * (Ring.bk 32 t.val).val + 1 * r.val = 32 * t.val + r.val
    omega
  | ⟨1, _⟩ =>
    show 0 + 1 * k.val = k.val
    omega

variable (V : (c : Dev nD) → (b : Ref sig .tc) → Buf (Elt Ideal) ((c : Thread nD τ).loc b))

/-- The label a grid point's block holds for its row `r`. -/
theorem label_row (c : Dev nD) (t : Fin cfg0.N) (r : Fin 32) :
    iblk0 V c 0 t (ix2 r 0) = V c main_call0_v0 (ix2 (row t r) 0) := by
  have hi := (index0 t).1
  blk_simp [iblk0]
  refine congrArg (V c main_call0_v0) (funext fun a => Fin.ext ?_)
  match a with
  | ⟨0, _⟩ =>
    blk_simp [hi]
    show t.val * 32 + r.val = 32 * t.val + r.val
    omega
  | ⟨1, _⟩ =>
    blk_simp [hi]

/-- The word for a row of a block. -/
theorem word_row (t : Fin cfg0.N) (r : Fin 32) (k : Fin 100000) :
    Cert.Loss.word (row t r) k = Cert.Loss.words t.val (ix2 r k) :=
  Cert.Loss.word_at t.val r (row t r) k (by unfold row; dsimp only; omega)

/-- What a grid point leaves in its first output block, row by row. -/
theorem chosen_block (c : Dev nD) (t : Fin cfg0.N) (r : Fin 32) (l : Fin 1) :
    k0_pay5 (landed c t (V c main_arg0)) (iblk0 V c 0 t) (ix2 r l)
      = kchosen (fun k => V c main_arg0 (ix2 (row t r) k)) (V c main_call0_v0 (ix2 (row t r) 0)) := by
  exact chosen_of _ _ r l _ _ (fun k => landed_row c t _ r k) (label_row V c t r)

/-- What a grid point leaves in its second output block, row by row. -/
theorem sampled_block (c : Dev nD) (t : Fin cfg0.N) (r : Fin 32) (l : Fin 1) :
    k0_pay1 (k0_pay3 (landed c t (V c main_arg0))) (k0_pay4 (landed c t (V c main_arg0)) (drawn t)) (ix2 r l)
      = ksampled (fun k => V c main_arg0 (ix2 (row t r) k)) (fun k => Cert.Loss.word (row t r) k) := by
  exact sampled_of _ _ r l _ _ (fun k => landed_row c t _ r k)
    fun k => (congrFun (drawn_eq t) _).trans (word_row t r k).symm

/-- The first column the first call leaves. -/
theorem chosen_arr (c : Dev nD) :
    (dat0 V c).arrAt 1 cfg0.N = fun j : S1024x1.Idx =>
      kchosen (fun k => V c main_arg0 (ix2 (j 0) k)) (V c main_call0_v0 (ix2 (j 0) 0)) := by
  refine (dat0 V c).arrAt_eq_of_covers 1 _ (by decide +kernel) fun t hf y => ?_
  blk_simp
  rw [after0_1, outsAt]
  dsimp only
  obtain ⟨r, l, rfl⟩ : ∃ (r : Fin 32) (l : Fin 1), y = ix2 r l := ⟨y 0, y 1, by
    funext a; match a with | ⟨0, _⟩ => rfl | ⟨1, _⟩ => rfl⟩
  have e : (win0_1.blk t).view.emb (ix2 r l) 0 = row t r := by
    have hi := (index0 t).2.1
    apply Fin.ext
    blk_simp [hi]
    show t.val * 32 + r.val = 32 * t.val + r.val
    omega
  rw [e]
  exact chosen_block V c t r l

/-- The second column the first call leaves. -/
theorem sampled_arr (c : Dev nD) :
    (dat0 V c).arrAt 2 cfg0.N = fun j : S1024x1.Idx =>
      ksampled (fun k => V c main_arg0 (ix2 (j 0) k)) (fun k => Cert.Loss.word (j 0) k) := by
  refine (dat0 V c).arrAt_eq_of_covers 2 _ (by decide +kernel) fun t hf y => ?_
  blk_simp
  rw [after0_2, outsAt]
  dsimp only
  obtain ⟨r, l, rfl⟩ : ∃ (r : Fin 32) (l : Fin 1), y = ix2 r l := ⟨y 0, y 1, by
    funext a; match a with | ⟨0, _⟩ => rfl | ⟨1, _⟩ => rfl⟩
  have e : (win0_2.blk t).view.emb (ix2 r l) 0 = row t r := by
    have hi := (index0 t).2.2.1
    apply Fin.ext
    blk_simp [hi]
    show t.val * 32 + r.val = 32 * t.val + r.val
    omega
  rw [e]
  exact sampled_block V c t r l

end Cert.KernelIdeal.Whole

end

end
-- ==== Proof.KernelIdeal.Value.lean ====
module

public import proofs.«01_k».proof.Proof.KernelIdeal.Run
public import proofs.«01_k».proof.Proof.KernelIdeal.Arrays
public import Idealize.ShloMosaic.Lib.StableHlo.ReadAt

@[expose] public section

set_option maxRecDepth 16384

/-! # The loss the kernel leaves -/

noncomputable section

namespace Cert.KernelIdeal.Whole

open Idealize.ShloMosaic Idealize.ShloMosaic.TcCoe Idealize.SL.Sem
open Cert.KernelIdeal Cert.KernelIdeal.Gen
open Idealize.ShloMosaic.Pointwise

variable (V : (c : Dev nD) → (b : Ref sig .tc) → Buf (Elt Ideal) ((c : Thread nD τ).loc b))

/-- The block number of the second call's one grid point, in the three windows. -/
theorem index1 : ∀ t : Fin cfg1.N, win1_0.index t = ![0, 0] ∧ win1_1.index t = ![0, 0] ∧ win1_2.index t = ![0, 0] :=
  (by decide +kernel : ∀ t : Fin grid1.N, win1_0.index t = ![0, 0] ∧ win1_1.index t = ![0, 0] ∧ win1_2.index t = ![0, 0])

/-- The second call reads the whole first column. -/
theorem column0 (c : Dev nD) (t : Fin cfg1.N) : iblk1 V c 0 t = V c main_call0_v1_0 := by
  have hi := (index1 t).1
  funext y
  blk_simp [iblk1]
  refine congrArg (V c main_call0_v1_0) (funext fun a => Fin.ext ?_)
  match a with
  | ⟨0, _⟩ => blk_simp [hi]
  | ⟨1, _⟩ => blk_simp [hi]

/-- The second call reads the whole second column. -/
theorem column1 (c : Dev nD) (t : Fin cfg1.N) : iblk1 V c 1 t = V c main_call0_v1_1 := by
  have hi := (index1 t).2.1
  funext y
  blk_simp [iblk1]
  refine congrArg (V c main_call0_v1_1) (funext fun a => Fin.ext ?_)
  match a with
  | ⟨0, _⟩ => blk_simp [hi]
  | ⟨1, _⟩ => blk_simp [hi]

/-- What the second call stores: the loss of the two columns it reads. -/
theorem outs1 (c : Dev nD) (t : Fin cfg1.N) : outsAt1 V c t = fun _ => k1_pay1 (iblk1 V c 0 t) (iblk1 V c 1 t) := by
  unfold outsAt1 out1_A_2
  rw [View.read_writes_eq_canon _ _ _ (cover1_A_2 c (ms1_0 t) (hs1_0 t) (ms1_1 t) (hs1_1 t) (ms1_2 t) (hs1_2 t) (iblk1 V c 0 t) (iblk1 V c 1 t))]
  unfold kernelRun1_A
  dsimp only
  refine (View.canon_unit_zero (Val := Elt Ideal) (S := S1x1) zero2 _ _).trans ?_
  funext _
  exact congrArg₂ k1_pay1 ((View.readAt_full (ms1_0 t).view _ _).trans ((hs1_0 t).read_unread _))
    ((View.readAt_full (ms1_1 t).view _ _).trans ((hs1_1 t).read_unread _))

/-- The array the second call leaves: the loss of the two columns. -/
theorem loss_arr (c : Dev nD) :
    (dat1 V c).arrAt 2 cfg1.N = fun _ : S1x1.Idx => k1_pay1 (V c main_call0_v1_0) (V c main_call0_v1_1) := by
  refine (dat1 V c).arrAt_eq_of_covers 2 _ (by decide +kernel) fun t hf y => ?_
  blk_simp
  rw [after1_2, outs1, column0, column1]

variable (m : (ℓ : Loc nD τ sig) → Buf (Elt Ideal) ℓ) (ρ : Dev nD → PrngReg)

/-- The labels laid out as a column. -/
theorem labels_col (c : Dev nD) (i : Fin 1024) (l : Fin 1) :
    W1 m ρ c (Proc.devRef .tc main_call0_v0) (ix2 i l) = m ((c : Thread nD τ).loc main_arg1) (ix1 i) := by
  have h : W0 m ρ c (Proc.devRef .tc main_arg1) = m ((c : Thread nD τ).loc main_arg1) := rfl
  rw [← h]
  unfold W1
  generalize W0 m ρ c = V
  after_reads_at

/-- The first column, as the second call finds it. -/
theorem first_col (c : Dev nD) (i : Fin 1024) (l : Fin 1) :
    W2 m ρ c (Proc.devRef .tc main_call0_v1_0) (ix2 i l)
      = kchosen (fun k => m ((c : Thread nD τ).loc main_arg0) (ix2 i k)) (m ((c : Thread nD τ).loc main_arg1) (ix1 i)) := by
  have h := (W2_arr m ρ c 1).trans (chosen_arr (V1 m ρ) c)
  refine (congrFun h (ix2 i l)).trans ?_
  have h0 : V1 m ρ c main_arg0 = m ((c : Thread nD τ).loc main_arg0) := W1_args m ρ c main_arg0 (by decide)
  have h1 : V1 m ρ c main_call0_v0 (ix2 i 0) = m ((c : Thread nD τ).loc main_arg1) (ix1 i) := labels_col m ρ c i 0
  show kchosen (fun k => V1 m ρ c main_arg0 (ix2 i k)) (V1 m ρ c main_call0_v0 (ix2 i 0)) = _
  rw [h0, h1]

/-- The second column, as the second call finds it. -/
theorem second_col (c : Dev nD) (i : Fin 1024) (l : Fin 1) :
    W2 m ρ c (Proc.devRef .tc main_call0_v1_1) (ix2 i l)
      = ksampled (fun k => m ((c : Thread nD τ).loc main_arg0) (ix2 i k)) (fun k => Cert.Loss.word i k) := by
  have h := (W2_arr m ρ c 2).trans (sampled_arr (V1 m ρ) c)
  refine (congrFun h (ix2 i l)).trans ?_
  have h0 : V1 m ρ c main_arg0 = m ((c : Thread nD τ).loc main_arg0) := W1_args m ρ c main_arg0 (by decide)
  show ksampled (fun k => V1 m ρ c main_arg0 (ix2 i k)) (fun k => Cert.Loss.word i k) = _
  rw [h0]

/-- The scalar the last line takes out of the second call's array. -/
theorem scalar_out (c : Dev nD) :
    W4 m ρ c (Proc.devRef .tc main_v0) ix0 = W3 m ρ c (Proc.devRef .tc main_call0_v2) (ix2 0 0) := by
  unfold W4
  generalize W3 m ρ c = V
  after_reads_at

/-- The loss the kernel leaves. -/
theorem value (c : Dev nD) :
    W4 m ρ c (Proc.devRef .tc main_v0) ix0
      = k1_pay1 (W2 m ρ c (Proc.devRef .tc main_call0_v1_0)) (W2 m ρ c (Proc.devRef .tc main_call0_v1_1)) := by
  refine (scalar_out m ρ c).trans ?_
  exact congrFun ((W3_arr m ρ c 2).trans (loss_arr (V2 m ρ) c)) (ix2 0 0)

end Cert.KernelIdeal.Whole

end

end
-- ==== Proof.ReferenceIdeal.LogSoftmax.lean ====
module

public import proofs.«01_k».proof.Proof.Gen.ReferenceIdeal.Launch
public import Idealize.ShloMosaic.Lib.Pointwise
public import Idealize.ShloMosaic.Lib.StableHlo.ReadAt

/-! The reference's log-softmax, line by line. -/

@[expose] public section

set_option maxRecDepth 16384

noncomputable section

namespace Cert.ReferenceIdeal.Host

open Idealize.ShloMosaic Idealize.ShloMosaic.TcCoe Idealize.SL.Sem
open Cert.ReferenceIdeal Cert.ReferenceIdeal.Gen
open Idealize.ShloMosaic.Pointwise

variable {F : FTy → Type} [FloatOps F]
variable (V : Valuation τ sig (Elt Ideal))

/-- The lines of the log-softmax that take every row's maximum. -/
abbrev maxOps : List (HloOp τ sig (Elt F)) :=
  [ StableHlo.TRef.nullary (.of main_call0_cst : StableHlo.TRef sig ⟨S_, .f32⟩) (constant S_ .f32 0xFF800000#32),
    StableHlo.TRef.binary (.of main_arg0 : StableHlo.TRef sig ⟨S1024x100000, .f32⟩) (.of main_call0_cst : StableHlo.TRef sig ⟨S_, .f32⟩) (.of main_call0_v0 : StableHlo.TRef sig ⟨S1024, .f32⟩) (fun x v => Host.reduce FloatOps.maximumf x v reducesTo_S1024x100000_S1024_d1 h_S_) ]

/-- The lines of the log-softmax that subtract it. -/
abbrev shiftOps : List (HloOp τ sig (Elt F)) :=
  [ StableHlo.TRef.nullary (.of main_call0_cst_0 : StableHlo.TRef sig ⟨S_, .f32⟩) (constant S_ .f32 0xFF800000#32),
    StableHlo.TRef.unary (.of main_call0_cst_0 : StableHlo.TRef sig ⟨S_, .f32⟩) (.of main_call0_v1 : StableHlo.TRef sig ⟨S1024, .f32⟩) (broadcastInDim S1024 ![] bcast_S_S1024),
    StableHlo.TRef.binary (.of main_call0_v1 : StableHlo.TRef sig ⟨S1024, .f32⟩) (.of main_call0_v0 : StableHlo.TRef sig ⟨S1024, .f32⟩) (.of main_call0_v2 : StableHlo.TRef sig ⟨S1024, .f32⟩) maximumf,
    StableHlo.TRef.unary (.of main_call0_v2 : StableHlo.TRef sig ⟨S1024, .f32⟩) (.of main_call0_v3 : StableHlo.TRef sig ⟨S1024x1, .f32⟩) (broadcastInDim S1024x1 ![0] bcast_S1024_S1024x1_0),
    StableHlo.TRef.unary (.of main_call0_v3 : StableHlo.TRef sig ⟨S1024x1, .f32⟩) (.of main_call0_v4 : StableHlo.TRef sig ⟨S1024x100000, .f32⟩) (broadcastInDim S1024x100000 ![0, 1] bcast_S1024x1_S1024x100000_0_1),
    StableHlo.TRef.binary (.of main_arg0 : StableHlo.TRef sig ⟨S1024x100000, .f32⟩) (.of main_call0_v4 : StableHlo.TRef sig ⟨S1024x100000, .f32⟩) (.of main_call0_v5 : StableHlo.TRef sig ⟨S1024x100000, .f32⟩) subf ]

/-- The lines of the log-softmax that subtract from the shifted row the logarithm of its sum of exponentials. -/
abbrev normOps : List (HloOp τ sig (Elt F)) :=
  [ StableHlo.TRef.unary (.of main_call0_v5 : StableHlo.TRef sig ⟨S1024x100000, .f32⟩) (.of main_call0_v6 : StableHlo.TRef sig ⟨S1024x100000, .f32⟩) Host.exp,
    StableHlo.TRef.nullary (.of main_call0_cst_1 : StableHlo.TRef sig ⟨S_, .f32⟩) (constant S_ .f32 0x00000000#32),
    StableHlo.TRef.binary (.of main_call0_v6 : StableHlo.TRef sig ⟨S1024x100000, .f32⟩) (.of main_call0_cst_1 : StableHlo.TRef sig ⟨S_, .f32⟩) (.of main_call0_v7 : StableHlo.TRef sig ⟨S1024, .f32⟩) (fun x v => Host.reduceAdd x v reducesTo_S1024x100000_S1024_d1 h_S_),
    StableHlo.TRef.unary (.of main_call0_v7 : StableHlo.TRef sig ⟨S1024, .f32⟩) (.of main_call0_v8 : StableHlo.TRef sig ⟨S1024x1, .f32⟩) (broadcastInDim S1024x1 ![0] bcast_S1024_S1024x1_0),
    StableHlo.TRef.unary (.of main_call0_v8 : StableHlo.TRef sig ⟨S1024x1, .f32⟩) (.of main_call0_v9 : StableHlo.TRef sig ⟨S1024x1, .f32⟩) Host.log,
    StableHlo.TRef.unary (.of main_call0_v9 : StableHlo.TRef sig ⟨S1024x1, .f32⟩) (.of main_call0_v10 : StableHlo.TRef sig ⟨S1024x100000, .f32⟩) (broadcastInDim S1024x100000 ![0, 1] bcast_S1024x1_S1024x100000_0_1),
    StableHlo.TRef.binary (.of main_call0_v5 : StableHlo.TRef sig ⟨S1024x100000, .f32⟩) (.of main_call0_v10 : StableHlo.TRef sig ⟨S1024x100000, .f32⟩) (.of main_v0 : StableHlo.TRef sig ⟨S1024x100000, .f32⟩) subf ]

/-- The lines of the log-softmax are these three groups. -/
theorem hostOps0_split : (hostOps0 : List (HloOp τ sig (Elt F))) = maxOps ++ (shiftOps ++ normOps) := rfl

/-- The first group leaves each row's maximum, taken from −∞. -/
theorem rowMax (x : Vec Ideal S1024x100000 .f32) (hx : V (Proc.devRef .tc main_arg0) = x) (i : Fin 1024) :
    StableHlo.after maxOps V (Proc.devRef .tc main_call0_v0) (ix1 i)
      = Finset.fold max (Ideal.ofBits .f32 0xFF800000#32) (fun l : Fin 100000 => x (ix2 i l)) Finset.univ := by
  subst hx
  after_reads_at

/-- The second leaves each element less its row's maximum. -/
theorem shift (x : Vec Ideal S1024x100000 .f32) (hx : V (Proc.devRef .tc main_arg0) = x)
    (y : Vec Ideal S1024 .f32) (hy : V (Proc.devRef .tc main_call0_v0) = y) (i : Fin 1024) (k : Fin 100000) :
    StableHlo.after shiftOps V (Proc.devRef .tc main_call0_v5) (ix2 i k) = x (ix2 i k) - max (Ideal.ofBits .f32 0xFF800000#32) (y (ix1 i)) := by
  subst hx hy
  after_reads_at

/-- The third leaves each element less the logarithm of its row's sum of exponentials. -/
theorem norm (x : Vec Ideal S1024x100000 .f32) (hx : V (Proc.devRef .tc main_call0_v5) = x) (i : Fin 1024) (k : Fin 100000) :
    StableHlo.after normOps V (Proc.devRef .tc main_v0) (ix2 i k) = x (ix2 i k)
      - Ideal.log (∑ l : Fin 100000, Ideal.exp (x (ix2 i l))) := by
  subst hx
  after_reads_at

end Cert.ReferenceIdeal.Host
end
-- ==== Proof.ReferenceIdeal.Host.lean ====
module

public import proofs.«01_k».proof.Proof.Gen.ReferenceIdeal.Launch
public import Idealize.ShloMosaic.Lib.Pointwise
public import Idealize.ShloMosaic.Lib.StableHlo.ReadAt

@[expose] public section

set_option maxRecDepth 16384

/-! # The reference's lines, entry by entry

Each theorem reads one result of one stretch of lines of the reference, from the arrays the stretch reads. -/

noncomputable section

namespace Cert.ReferenceIdeal.Host

open Idealize.ShloMosaic Idealize.ShloMosaic.TcCoe Idealize.SL.Sem
open Cert.ReferenceIdeal Cert.ReferenceIdeal.Gen
open Idealize.ShloMosaic.Pointwise

variable (V : Valuation τ sig (Elt Ideal))

/-- An index counted from the end when it is negative. -/
def wrap (q : BitVec 32) : BitVec 32 :=
  Scalar.select (IntOp.cmpi .slt q 0#32) (IntOp.addi q 100000#32) q

/-- Whether a wrapped index lies in the row. -/
def inRow (q : BitVec 32) : BitVec 1 :=
  IntOp.andi (IntOp.cmpi .sge q 0#32) (IntOp.cmpi .sle q 99999#32)

/-- The indices `gather` reads, laid out as it wants them. -/
def starts (p : IVec S1024x1 32) : IVec S1024x1x1 32 := fun j => wrap (p (ix2 (j 0) 0))

/-- One entry of the row looked up at an index that may lie outside. -/
def takeAt (x : Vec Ideal S1024x100000 .f32) (p : IVec S1024x1 32) (i : Fin 1024) (l : Fin 1) : EReal :=
  Scalar.select (Finset.fold IntOp.andi (1#1) (fun _ : Fin 1 => inRow (wrap (p (ix2 i 0)))) Finset.univ)
    (Host.gather gather_S1024x100000_S1024x1x1_S1024x1_n_1_0_0_1_2_11 x (starts p) (ix2 i l))
    (Ideal.ofBits .f32 0x7FC00000#32)

/-- The score the reference gives to a column with entry `x` and random word `w`. -/
def rscore (x : EReal) (w : BitVec 32) : EReal :=
  Ideal.div x (Ideal.ofBits .f32 0x3F333333#32)
    + -Ideal.log (-Ideal.log (max
        ((((IntOp.shrui .host w 9#32).toInt : ℝ) : EReal) * Ideal.ofBits .f32 0x34000000#32)
        (Ideal.ofBits .f32 0x00800000#32)))

/-- The log-odds the loss is taken of, as the reference writes them. -/
def rodds (a b : EReal) : EReal :=
  a - b - (Ideal.log1p (-Ideal.exp a) - Ideal.log1p (-Ideal.exp b))

/-- The labels laid out as a column. -/
theorem labels (y : Vec Ideal S1024 .i32) (hy : V (Proc.devRef .tc main_arg1) = y) (i : Fin 1024) (l : Fin 1) :
    StableHlo.after hostOps0_1 V (Proc.devRef .tc main_v1) (ix2 i l) = y (ix1 i) := by
  subst hy
  after_reads_at

/-- The log-probability at the label. -/
theorem chosen (x : Vec Ideal S1024x100000 .f32) (hx : V (Proc.devRef .tc main_v0) = x)
    (p : Vec Ideal S1024x1 .i32) (hp : V (Proc.devRef .tc main_v1) = p) (i : Fin 1024) (l : Fin 1) :
    StableHlo.after hostOps0_2 V (Proc.devRef .tc main_v2) (ix2 i l) = takeAt x p i l := by
  subst hx hp
  unfold takeAt starts inRow wrap
  after_reads_at
  rfl

/-- The chosen log-probabilities as a vector. -/
theorem chosenVec (a : Vec Ideal S1024x1 .f32) (ha : V (Proc.devRef .tc main_v2) = a) (i : Fin 1024) :
    StableHlo.after hostOps0_3 V (Proc.devRef .tc main_v3) (ix1 i) = a (ix2 i 0) := by
  subst ha
  after_reads_at

/-- Minus the mean of the chosen log-probabilities. -/
theorem entropy (a : Vec Ideal S1024x1 .f32) (ha : V (Proc.devRef .tc main_v2) = a) :
    StableHlo.after hostOps0_3 V (Proc.devRef .tc main_v6) ix0
      = -Ideal.div (∑ x : Fin 1024, a (ix2 x 0)) (Ideal.ofBits .f32 0x44800000#32) := by
  subst ha
  after_reads_at

/-- Which columns have the largest score of their row. -/
theorem tied (x : Vec Ideal S1024x100000 .f32) (hx : V (Proc.devRef .tc main_arg0) = x)
    (w : Vec Ideal S1024x100000 .i32) (hw : V (Proc.devRef .tc main_v7) = w) (i : Fin 1024) (k : Fin 100000) :
    StableHlo.after hostOps1 V (Proc.devRef .tc main_v25) (ix2 i k)
      = BitVec.ofBool (decide (rscore (x (ix2 i k)) (w (ix2 i k))
          = Finset.fold max (Ideal.ofBits .f32 0xFF800000#32)
              (fun l : Fin 100000 => rscore (x (ix2 i l)) (w (ix2 i l))) Finset.univ)) := by
  subst hx hw
  unfold rscore
  after_reads_at
  rfl

/-- The value the columns that are not tied are masked with. -/
theorem mask : StableHlo.after hostOps1 V (Proc.devRef .tc main_cst_5) ix0 = Ideal.ofBits .f32 0xFF800000#32 := by
  after_reads_at

/-- The row with the columns that are not tied masked. -/
theorem masked (x : Vec Ideal S1024x100000 .f32) (hx : V (Proc.devRef .tc main_arg0) = x)
    (b : Vec Ideal S1024x100000 .i1) (hb : V (Proc.devRef .tc main_v25) = b)
    (z : Vec Ideal S_ .f32) (hz : V (Proc.devRef .tc main_cst_5) = z) (i : Fin 1024) (k : Fin 100000) :
    StableHlo.after hostOps1_1 V (Proc.devRef .tc main_v26) (ix2 i k)
      = Scalar.select (b (ix2 i k)) (x (ix2 i k)) (z ix0) := by
  subst hx hb hz
  after_reads_at
  rfl

/-- The column where the masked row is largest. -/
theorem sampledCol (x : Vec Ideal S1024x100000 .f32) (hx : V (Proc.devRef .tc main_v26) = x) (i : Fin 1024) :
    StableHlo.after hostOps1_2 V (Proc.devRef .tc main_v27) (ix1 i)
      = (Host.argReduce reducer_argmax_f32_i32 x (iotaInDim S1024x100000 32 1) (constant (F := Ideal) S_ .f32 0xFF800000#32)
          (constantI S_ 32 0#32) reducesTo_S1024x100000_S1024_d1 h_S_ (ix1 i)).2 := by
  subst hx
  after_reads_at

/-- The sampled columns laid out as a column. -/
theorem samples (y : Vec Ideal S1024 .i32) (hy : V (Proc.devRef .tc main_v27) = y) (i : Fin 1024) (l : Fin 1) :
    StableHlo.after hostOps1_3 V (Proc.devRef .tc main_v28) (ix2 i l) = y (ix1 i) := by
  subst hy
  after_reads_at

/-- The log-probability at the sampled column. -/
theorem rejected (x : Vec Ideal S1024x100000 .f32) (hx : V (Proc.devRef .tc main_v0) = x)
    (p : Vec Ideal S1024x1 .i32) (hp : V (Proc.devRef .tc main_v28) = p) (i : Fin 1024) (l : Fin 1) :
    StableHlo.after hostOps1_4 V (Proc.devRef .tc main_v29) (ix2 i l) = takeAt x p i l := by
  subst hx hp
  unfold takeAt starts inRow wrap
  after_reads_at
  rfl

/-- The loss from the two columns of log-probabilities. -/
theorem loss (a : Vec Ideal S1024 .f32) (ha : V (Proc.devRef .tc main_v3) = a)
    (b : Vec Ideal S1024x1 .f32) (hb : V (Proc.devRef .tc main_v29) = b)
    (e : Vec Ideal S_ .f32) (he : V (Proc.devRef .tc main_v6) = e) :
    StableHlo.after hostOps1_5 V (Proc.devRef .tc main_v52) ix0
      = Ideal.div (∑ x : Fin 1024, (Ideal.ofBits .f32 0x3DCCCCCD#32
          * Ideal.log (Ideal.div 1 (1 + Ideal.exp (-(rodds (a (ix1 x)) (b (ix2 x 0)))))) + e ix0))
          (Ideal.ofBits .f32 0x44800000#32) := by
  subst ha hb he
  unfold rodds
  after_reads_at

end Cert.ReferenceIdeal.Host

end

end
-- ==== Proof.ReferenceIdeal.Lookup.lean ====
module

public import proofs.«01_k».proof.Proof.ReferenceIdeal.Host
public import Idealize.ShloMosaic.PureOps.Ideal.Laws

@[expose] public section

set_option maxRecDepth 16384

/-! # Looking a column up in each row

For a column inside the row the reference's lookup, with its test for columns outside, is the entry at that column. -/

noncomputable section

namespace Cert.ReferenceIdeal.Host

open Idealize.ShloMosaic Idealize.ShloMosaic.TcCoe Idealize.SL.Sem
open Cert.ReferenceIdeal Cert.ReferenceIdeal.Gen
open Idealize.ShloMosaic.Pointwise

/-- A column number, read as a signed word, is the number itself. -/
theorem toInt_col (n : ℕ) (hn : n < 100000) : (BitVec.ofNat 32 n).toInt = (n : ℤ) := by
  rw [BitVec.toInt_eq_toNat_of_lt (by rw [BitVec.toNat_ofNat]; omega), BitVec.toNat_ofNat, Nat.mod_eq_of_lt (by omega)]

/-- A column number is not wrapped. -/
theorem wrap_col (n : ℕ) (hn : n < 100000) : wrap (BitVec.ofNat 32 n) = BitVec.ofNat 32 n := by
  have h : IntOp.cmpi .slt (BitVec.ofNat 32 n) 0#32 = 0#1 := by
    show BitVec.ofBool (decide ((BitVec.ofNat 32 n).toInt < (0#32).toInt)) = 0#1
    rw [toInt_col n hn, decide_eq_false (by show ¬(n : ℤ) < 0; omega)]
    rfl
  unfold wrap
  rw [h]
  rfl

/-- A column number lies in the row. -/
theorem inRow_col (n : ℕ) (hn : n < 100000) : inRow (BitVec.ofNat 32 n) = 1#1 := by
  have h0 : IntOp.cmpi .sge (BitVec.ofNat 32 n) 0#32 = 1#1 := by
    simp [IntOp.cmpi, BitVec.sle, BitVec.slt, toInt_col n hn]
  have h1 : IntOp.cmpi .sle (BitVec.ofNat 32 n) 99999#32 = 1#1 := by
    show BitVec.ofBool (decide ((BitVec.ofNat 32 n).toInt ≤ (99999#32).toInt)) = 1#1
    rw [toInt_col n hn, decide_eq_true (by show (n : ℤ) ≤ 99999; omega)]
    rfl
  unfold inRow
  rw [h0, h1]
  rfl

variable [Facts]

/-- The lookup at result entry `(i, l)` reads row `i`, at the start index clamped into the row. -/
theorem gather_col (x : Vec Ideal S1024x100000 .f32) (s : IVec S1024x1x1 32) (i : Fin 1024) (l : Fin 1)
    (n : Fin 100000) (hs : ∀ j : S1024x1x1.Idx, j 0 = i → s j = BitVec.ofNat 32 n.val) :
    Host.gather gather_S1024x100000_S1024x1x1_S1024x1_n_1_0_0_1_2_11 x s (ix2 i l) = x (ix2 i n) := by
  unfold Host.gather
  refine congrArg x (funext fun a => Fin.ext ?_)
  match a with
  | ⟨0, _⟩ =>
    show gather_S1024x100000_S1024x1x1_S1024x1_n_1_0_0_1_2_11.start (ix2 i l) s 0
      + gather_S1024x100000_S1024x1x1_S1024x1_n_1_0_0_1_2_11.batchCoord (ix2 i l) 0
      + gather_S1024x100000_S1024x1x1_S1024x1_n_1_0_0_1_2_11.offCoord (ix2 i l) 0 = i.val
    have h1 : gather_S1024x100000_S1024x1x1_S1024x1_n_1_0_0_1_2_11.start (ix2 i l) s 0 = 0 :=
      GatherDims.start_batching _ _ _ _ (List.mem_singleton.2 rfl)
    have h2 : gather_S1024x100000_S1024x1x1_S1024x1_n_1_0_0_1_2_11.batchCoord (ix2 i l) 0 = i.val := rfl
    have h3 : gather_S1024x100000_S1024x1x1_S1024x1_n_1_0_0_1_2_11.offCoord (ix2 i l) 0 = 0 := rfl
    rw [h1, h2, h3]; omega
  | ⟨1, _⟩ =>
    show gather_S1024x100000_S1024x1x1_S1024x1_n_1_0_0_1_2_11.start (ix2 i l) s 1
      + gather_S1024x100000_S1024x1x1_S1024x1_n_1_0_0_1_2_11.batchCoord (ix2 i l) 1
      + gather_S1024x100000_S1024x1x1_S1024x1_n_1_0_0_1_2_11.offCoord (ix2 i l) 1 = n.val
    have h2 : gather_S1024x100000_S1024x1x1_S1024x1_n_1_0_0_1_2_11.batchCoord (ix2 i l) 1 = 0 := rfl
    have h3 : gather_S1024x100000_S1024x1x1_S1024x1_n_1_0_0_1_2_11.offCoord (ix2 i l) 1 = 0 := rfl
    have hm : (1 : Fin 2) ∈ gather_S1024x100000_S1024x1x1_S1024x1_n_1_0_0_1_2_11.startIndexMap := List.mem_singleton.2 rfl
    have hn := n.isLt
    rw [h2, h3]
    unfold GatherDims.start
    rw [dif_pos hm, hs _ rfl, toInt_col n.val hn, Int.toNat_natCast]
    show min n.val (100000 - 1) + 0 + 0 = n.val
    omega

/-- The lookup of a column inside the row. -/
theorem takeAt_col (x : Vec Ideal S1024x100000 .f32) (p : IVec S1024x1 32) (i : Fin 1024) (l : Fin 1)
    (n : Fin 100000) (hp : p (ix2 i 0) = BitVec.ofNat 32 n.val) : takeAt x p i l = x (ix2 i n) := by
  unfold takeAt
  have hg := gather_col x (starts p) i l n fun j hj => by
    unfold starts; rw [hj, hp, wrap_col n.val n.isLt]
  rw [hg, hp, wrap_col n.val n.isLt, inRow_col n.val n.isLt]
  rfl

end Cert.ReferenceIdeal.Host

end

end
-- ==== Proof.Math.Row.lean ====
module

public import Idealize.ShloMosaic.PureOps.Ideal.Laws

@[expose] public section

/-! # The log-softmax of one row, over the extended reals

The reference subtracts the row's maximum before it exponentiates, the kernel does not.
Over the extended reals both give the same row, also when entries are infinite. -/

namespace Cert.Loss

open Idealize.ShloMosaic

/-- The float word for minus infinity denotes the bottom of the extended reals. -/
theorem word_bot : Ideal.ofBits .f32 0xFF800000#32 = ⊥ := by
  simp [Ideal.ofBits, Ideal.ieee]

/-- Folding `max` from the bottom over a finite set is the supremum over the set. -/
theorem fold_max {n : ℕ} (f : Fin n → EReal) :
    Finset.fold max (⊥ : EReal) f Finset.univ = Finset.univ.sup f := rfl

/-- The exponential is never negative. -/
theorem exp_nonneg (x : EReal) : 0 ≤ Ideal.exp x := by
  induction x with
  | bot => simp
  | top => simp
  | coe r => rw [Ideal.exp_coe]; exact_mod_cast (Real.exp_pos r).le

/-- A sum with an infinite nonnegative term, all terms nonnegative, is infinite. -/
theorem sum_top {n : ℕ} (g : Fin n → EReal) (h : ∀ k, 0 ≤ g k) (k : Fin n) (hk : g k = ⊤) :
    ∑ k, g k = ⊤ :=
  top_le_iff.1 (hk ▸ Finset.single_le_sum (f := g) (fun i _ => h i) (Finset.mem_univ k))

/-- The exponential of a number below the top is a real number. -/
theorem exp_real {x : EReal} (hx : x ≠ ⊤) : ∃ e : ℝ, 0 ≤ e ∧ Ideal.exp x = (e : EReal) := by
  induction x with
  | bot => exact ⟨0, le_rfl, by simp⟩
  | top => exact absurd rfl hx
  | coe r => exact ⟨Real.exp r, (Real.exp_pos r).le, Ideal.exp_coe r⟩

/-- Shifting an argument below the top by a real number scales its exponential. -/
theorem exp_shift {x : EReal} (M : ℝ) :
    Ideal.exp (x - (M : EReal)) = Ideal.exp x * ((Real.exp (-M) : ℝ) : EReal) := by
  induction x with
  | bot => simp
  | top =>
    simp [EReal.top_mul_coe_of_pos (Real.exp_pos (-M))]
  | coe r =>
    rw [← EReal.coe_sub, Ideal.exp_coe, Ideal.exp_coe, ← EReal.coe_mul, ← Real.exp_add, sub_eq_add_neg]

/-- A finite sum of real numbers, seen in the extended reals. -/
theorem coe_sum {n : ℕ} (g : Fin n → ℝ) : ∑ k, ((g k : ℝ) : EReal) = ((∑ k, g k : ℝ) : EReal) := by
  induction (Finset.univ : Finset (Fin n)) using Finset.induction_on with
  | empty => simp
  | insert a s ha ih => rw [Finset.sum_insert ha, Finset.sum_insert ha, ih, EReal.coe_add]

/-- Subtracting the row's maximum before the exponential does not change a log-softmax entry. -/
theorem log_softmax_shift {n : ℕ} (f : Fin n → EReal) (i : Fin n) :
    (f i - Finset.univ.sup f) - Ideal.log (∑ k, Ideal.exp (f k - Finset.univ.sup f))
      = f i - Ideal.log (∑ k, Ideal.exp (f k)) := by
  obtain ⟨j, -, hj⟩ := Finset.exists_mem_eq_sup Finset.univ ⟨i, Finset.mem_univ i⟩ f
  have hle : ∀ k, f k ≤ f j := fun k => hj ▸ Finset.le_sup (f := f) (Finset.mem_univ k)
  rw [hj]
  rcases hM : f j with _ | _ | M
  · have hM' : f j = ⊥ := hM
    have hi : f i = ⊥ := le_bot_iff.1 (hM' ▸ hle i)
    rw [hi]; rfl
  · have hM' : f j = ⊤ := hM
    have hs : ∑ k, Ideal.exp (f k) = ⊤ := sum_top _ (fun k => exp_nonneg _) j (by rw [hM']; simp)
    rw [hs]
    change (f i - ⊤) - _ = f i - Ideal.log ⊤
    simp [Ideal.log_top]
  · have hM' : f j = (M : EReal) := hM
    change (f i - (M : EReal)) - Ideal.log (∑ k, Ideal.exp (f k - (M : EReal))) = _
    have hne : ∀ k, f k ≠ ⊤ := fun k hk => by
      have := hle k; rw [hk, hM'] at this; exact absurd (top_le_iff.1 this) (EReal.coe_ne_top M)
    choose e he0 he using fun k => exp_real (hne k)
    have hpos : 0 < ∑ k, e k := by
      refine lt_of_lt_of_le ?_ (Finset.single_le_sum (f := e) (fun k _ => he0 k) (Finset.mem_univ j))
      have := he j
      rw [hM', Ideal.exp_coe] at this
      rw [← EReal.coe_eq_coe_iff.1 this]; exact Real.exp_pos M
    have h1 : ∑ k, Ideal.exp (f k) = ((∑ k, e k : ℝ) : EReal) := by
      rw [← coe_sum]; exact Finset.sum_congr rfl fun k _ => he k
    have h2 : ∑ k, Ideal.exp (f k - (M : EReal)) = (((∑ k, e k) * Real.exp (-M) : ℝ) : EReal) := by
      rw [Finset.sum_mul, ← coe_sum]
      refine Finset.sum_congr rfl fun k _ => ?_
      rw [exp_shift, he k, ← EReal.coe_mul]
    have hpos2 : 0 < (∑ k, e k) * Real.exp (-M) := mul_pos hpos (Real.exp_pos _)
    rw [h1, h2, Ideal.log_coe, Ideal.log_coe, if_neg (not_le.2 hpos), if_neg (not_le.2 hpos2),
      Real.log_mul hpos.ne' (Real.exp_pos _).ne', Real.log_exp]
    induction f i with
    | bot => rfl
    | top => rfl
    | coe r => norm_cast; ring

end Cert.Loss

end
-- ==== Proof.ReferenceIdeal.Argmax.lean ====
module

public import proofs.«01_k».proof.Proof.ReferenceIdeal.Lookup
public import proofs.«01_k».proof.Proof.Math.Row

@[expose] public section

set_option maxRecDepth 16384

/-! # The column where a row is largest -/

noncomputable section

namespace Cert.ReferenceIdeal.Host

open Idealize.ShloMosaic Idealize.ShloMosaic.TcCoe Idealize.SL.Sem
open Cert.ReferenceIdeal Cert.ReferenceIdeal.Gen
open Idealize.ShloMosaic.Pointwise

/-- One step of the search: the result is one of the two pairs, and neither value is above its value. -/
theorem step (a b : EReal × BitVec 32) :
    (reducer_argmax_f32_i32 (F := Ideal) a b = a ∨ reducer_argmax_f32_i32 (F := Ideal) a b = b)
      ∧ a.1 ≤ (reducer_argmax_f32_i32 (F := Ideal) a b).1 ∧ b.1 ≤ (reducer_argmax_f32_i32 (F := Ideal) a b).1 := by
  obtain ⟨x, i⟩ := a
  obtain ⟨y, j⟩ := b
  rcases lt_trichotomy x y with h | h | h
  · have : reducer_argmax_f32_i32 (F := Ideal) (x, i) (y, j) = (y, j) := by
      simp [reducer_argmax_f32_i32, Ideal.cmpf_def, Ideal.cmp, Scalar.select, IntOp.ori, IntOp.andi, h.ne, not_lt.2 h.le]
    rw [this]; exact ⟨Or.inr rfl, h.le, le_rfl⟩
  · subst h
    by_cases hs : IntOp.cmpi .slt i j = 1#1
    · have : reducer_argmax_f32_i32 (F := Ideal) (x, i) (x, j) = (x, i) := by
        simp [reducer_argmax_f32_i32, Ideal.cmpf_def, Ideal.cmp, Scalar.select, IntOp.ori, IntOp.andi, hs]
      rw [this]; exact ⟨Or.inl rfl, le_rfl, le_rfl⟩
    · have hz : IntOp.cmpi .slt i j = 0#1 := (BitVec.eq_zero_or_eq_one _).resolve_right hs
      have : reducer_argmax_f32_i32 (F := Ideal) (x, i) (x, j) = (x, j) := by
        simp [reducer_argmax_f32_i32, Ideal.cmpf_def, Ideal.cmp, Scalar.select, IntOp.ori, IntOp.andi, hz]
      rw [this]; exact ⟨Or.inr rfl, le_rfl, le_rfl⟩
  · have : reducer_argmax_f32_i32 (F := Ideal) (x, i) (y, j) = (x, i) := by
      simp [reducer_argmax_f32_i32, Ideal.cmpf_def, Ideal.cmp, Scalar.select, IntOp.ori, IntOp.andi, h, h.ne']
    rw [this]; exact ⟨Or.inl rfl, le_rfl, h.le⟩

/-- The search over a list: the result is the first pair or one of the list, and no value is above its value. -/
theorem search (L : List (EReal × BitVec 32)) (a : EReal × BitVec 32) :
    (L.foldl (reducer_argmax_f32_i32 (F := Ideal)) a = a ∨ L.foldl (reducer_argmax_f32_i32 (F := Ideal)) a ∈ L)
      ∧ a.1 ≤ (L.foldl (reducer_argmax_f32_i32 (F := Ideal)) a).1
      ∧ ∀ p ∈ L, p.1 ≤ (L.foldl (reducer_argmax_f32_i32 (F := Ideal)) a).1 := by
  induction L generalizing a with
  | nil => exact ⟨Or.inl rfl, le_rfl, fun p hp => absurd hp List.not_mem_nil⟩
  | cons b L ih =>
    obtain ⟨h1, h2, h3⟩ := ih (reducer_argmax_f32_i32 (F := Ideal) a b)
    obtain ⟨s1, s2, s3⟩ := step a b
    rw [List.foldl_cons]
    refine ⟨?_, s2.trans h2, fun p hp => ?_⟩
    · rcases h1 with h1 | h1
      · rcases s1 with s1 | s1
        · exact Or.inl (h1.trans s1)
        · exact Or.inr (by rw [h1, s1]; exact List.mem_cons_self)
      · exact Or.inr (List.mem_cons_of_mem _ h1)
    · rcases List.mem_cons.1 hp with rfl | hp
      · exact s3.trans h2
      · exact h3 p hp

variable [Facts]

/-- The pairs the search of row `i` goes through: the row's entries with their column numbers. -/
theorem mem_fiber (x : Vec Ideal S1024x100000 .f32) (i : Fin 1024) (p : EReal × BitVec 32) :
    p ∈ Host.argReduceFiber x (iotaInDim S1024x100000 32 1) reducesTo_S1024x100000_S1024_d1 (ix1 i)
      ↔ ∃ k : Fin 100000, p = (x (ix2 i k), BitVec.ofNat 32 k.val) := by
  unfold Host.argReduceFiber
  rw [List.mem_map]
  constructor
  · rintro ⟨n, hn, rfl⟩
    have hd := of_decide_eq_true (List.mem_filter.1 hn).2
    obtain ⟨k, hk⟩ := (Shape.ReducesTo.fiber_r2_a1 reducesTo_S1024x100000_S1024_d1 (ix1 i) _).1 hd
    exact ⟨k, by rw [← hk]; rfl⟩
  · rintro ⟨k, rfl⟩
    refine ⟨S1024x100000.rowMajor (ix2 i k), List.mem_filter.2 ⟨List.mem_finRange _, decide_eq_true ?_⟩, ?_⟩
    · rw [Equiv.symm_apply_apply]
      exact (Shape.ReducesTo.fiber_r2_a1 reducesTo_S1024x100000_S1024_d1 (ix1 i) _).2 ⟨k, rfl⟩
    · rw [Equiv.symm_apply_apply]; rfl

/-- The search of a row finds a column of the row at which no entry of the row is above the entry. -/
theorem argmax_row (x : Vec Ideal S1024x100000 .f32) (i : Fin 1024) :
    ∃ r : Fin 100000,
      (Host.argReduce reducer_argmax_f32_i32 x (iotaInDim S1024x100000 32 1) (constant (F := Ideal) S_ .f32 0xFF800000#32)
          (constantI S_ 32 0#32) reducesTo_S1024x100000_S1024_d1 h_S_ (ix1 i)).2 = BitVec.ofNat 32 r.val
        ∧ ∀ k : Fin 100000, x (ix2 i k) ≤ x (ix2 i r) := by
  rw [Ideal.argReduce_eq_reduce2, Host.reduce2_eq_foldl_fiber]
  obtain ⟨h1, h2, h3⟩ := search (Host.argReduceFiber x (iotaInDim S1024x100000 32 1) reducesTo_S1024x100000_S1024_d1 (ix1 i))
    (constant (F := Ideal) S_ .f32 0xFF800000#32 (Shape.Idx.first h_S_), constantI S_ 32 0#32 (Shape.Idx.first h_S_))
  have hle : ∀ k : Fin 100000, x (ix2 i k) ≤ _ := fun k => h3 _ ((mem_fiber x i _).2 ⟨k, rfl⟩)
  rcases h1 with h1 | h1
  · rw [h1] at hle ⊢
    refine ⟨0, rfl, fun k => (hle k).trans ?_⟩
    show Ideal.ofBits .f32 0xFF800000#32 ≤ _
    rw [Cert.Loss.word_bot]
    exact bot_le
  · obtain ⟨r, hr⟩ := (mem_fiber x i _).1 h1
    rw [hr] at hle ⊢
    exact ⟨r, rfl, hle⟩

end Cert.ReferenceIdeal.Host

end

end
-- ==== Proof.ReferenceIdeal.Chain.lean ====
module

public import proofs.«01_k».proof.Proof.Gen.ReferenceIdeal.Frame.Runs
public import proofs.«01_k».proof.Proof.ReferenceIdeal.LogSoftmax
public import proofs.«01_k».proof.Proof.ReferenceIdeal.Host
public import proofs.«01_k».proof.Proof.ReferenceIdeal.Lookup
public import proofs.«01_k».proof.Proof.ReferenceIdeal.Argmax
public import proofs.«01_k».proof.Proof.Math.Row

@[expose] public section

set_option maxRecDepth 16384

/-! # The reference's lines put together

The lines before the call that draws the words, and the lines after it, each read as a whole. -/

noncomputable section

namespace Cert.ReferenceIdeal.Host

open Idealize.ShloMosaic Idealize.ShloMosaic.TcCoe Idealize.SL.Sem
open Cert.ReferenceIdeal Cert.ReferenceIdeal.Gen
open Idealize.ShloMosaic.Pointwise

variable (V : Valuation τ sig (Elt Ideal))

/-- The arrays `hostOps0` writes. -/
abbrev hostOps0_W : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v0]

/-- `hostOps0` writes no other array. -/
theorem hostOps0_writes : (hostOps0 : List (HloOp τ sig (Elt Ideal))).Forall fun op =>
    op.writes ⊆ (hostOps0_W.map (Proc.devRef (τ := τ) .tc)).toFinset :=
  StableHlo.forall_writes_sub_of_map rfl

/-- The arrays `hostOps0_1` writes. -/
abbrev hostOps0_1_W : List (Ref sig .tc) := [main_v1]

/-- `hostOps0_1` writes no other array. -/
theorem hostOps0_1_writes : (hostOps0_1 : List (HloOp τ sig (Elt Ideal))).Forall fun op =>
    op.writes ⊆ (hostOps0_1_W.map (Proc.devRef (τ := τ) .tc)).toFinset :=
  StableHlo.forall_writes_sub_of_map rfl

/-- The arrays `hostOps0_2` writes. -/
abbrev hostOps0_2_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v2]

/-- `hostOps0_2` writes no other array. -/
theorem hostOps0_2_writes : (hostOps0_2 : List (HloOp τ sig (Elt Ideal))).Forall fun op =>
    op.writes ⊆ (hostOps0_2_W.map (Proc.devRef (τ := τ) .tc)).toFinset :=
  StableHlo.forall_writes_sub_of_map rfl

/-- The arrays `hostOps0_3` writes. -/
abbrev hostOps0_3_W : List (Ref sig .tc) := [main_v3, main_cst, main_v4, main_cst_0, main_v5, main_v6]

/-- `hostOps0_3` writes no other array. -/
theorem hostOps0_3_writes : (hostOps0_3 : List (HloOp τ sig (Elt Ideal))).Forall fun op =>
    op.writes ⊆ (hostOps0_3_W.map (Proc.devRef (τ := τ) .tc)).toFinset :=
  StableHlo.forall_writes_sub_of_map rfl

/-- The arrays `maxOps` writes. -/
abbrev maxOps_W : List (Ref sig .tc) := [main_call0_cst, main_call0_v0]

/-- `maxOps` writes no other array. -/
theorem maxOps_writes : (maxOps : List (HloOp τ sig (Elt Ideal))).Forall fun op =>
    op.writes ⊆ (maxOps_W.map (Proc.devRef (τ := τ) .tc)).toFinset :=
  StableHlo.forall_writes_sub_of_map rfl

/-- The arrays `shiftOps` writes. -/
abbrev shiftOps_W : List (Ref sig .tc) := [main_call0_cst_0, main_call0_v1, main_call0_v2, main_call0_v3, main_call0_v4, main_call0_v5]

/-- `shiftOps` writes no other array. -/
theorem shiftOps_writes : (shiftOps : List (HloOp τ sig (Elt Ideal))).Forall fun op =>
    op.writes ⊆ (shiftOps_W.map (Proc.devRef (τ := τ) .tc)).toFinset :=
  StableHlo.forall_writes_sub_of_map rfl

/-- The log-softmax of the rows of `x`. -/
def logp (x : Vec Ideal S1024x100000 .f32) (i : Fin 1024) (k : Fin 100000) : EReal :=
  x (ix2 i k) - Ideal.log (∑ l : Fin 100000, Ideal.exp (x (ix2 i l)))

/-- The log-softmax lines leave the log-softmax: subtracting the row's maximum first changes nothing. -/
theorem logSoftmax (x : Vec Ideal S1024x100000 .f32) (hx : V (Proc.devRef .tc main_arg0) = x)
    (i : Fin 1024) (k : Fin 100000) :
    StableHlo.after hostOps0 V (Proc.devRef .tc main_v0) (ix2 i k) = logp x i k := by
  rw [hostOps0_split, StableHlo.after_append, StableHlo.after_append]
  have hx1 : StableHlo.after maxOps V (Proc.devRef .tc main_arg0) = x :=
    (StableHlo.after_of_writes_sub (r := main_arg0) maxOps V maxOps_writes (by decide)).trans hx
  have hs : ∀ k : Fin 100000, StableHlo.after shiftOps (StableHlo.after maxOps V) (Proc.devRef .tc main_call0_v5) (ix2 i k)
      = (x (ix2 i k) : EReal) - Finset.univ.sup fun l : Fin 100000 => (x (ix2 i l) : EReal) := by
    intro k
    rw [shift (StableHlo.after maxOps V) x hx1 _ rfl i k, rowMax V x hx i, Cert.Loss.word_bot, Cert.Loss.fold_max,
      max_eq_right bot_le]
  rw [norm _ _ rfl i k]
  simp only [hs]
  exact Cert.Loss.log_softmax_shift (fun l : Fin 100000 => (x (ix2 i l) : EReal)) k

/-- The arrays as the lines before the call leave them. -/
abbrev pre : Valuation τ sig (Elt Ideal) := StableHlo.after (List.flatten [hostOps0, hostOps0_1, hostOps0_2, hostOps0_3]) V

/-- The lines before the call, one stretch after the other. -/
theorem pre_eq : pre V = StableHlo.after hostOps0_3 (StableHlo.after hostOps0_2 (StableHlo.after hostOps0_1 (StableHlo.after hostOps0 V))) := by
  unfold pre
  rw [List.flatten_cons, List.flatten_cons, List.flatten_cons, List.flatten_cons, List.flatten_nil, List.append_nil,
    StableHlo.after_append, StableHlo.after_append, StableHlo.after_append]

/-- The lines before the call leave `x` as it is. -/
theorem pre_arg0 : pre V (Proc.devRef .tc main_arg0) = V (Proc.devRef .tc main_arg0) := by
  rw [pre_eq, StableHlo.after_of_writes_sub (r := main_arg0) hostOps0_3 _ hostOps0_3_writes (by decide),
    StableHlo.after_of_writes_sub (r := main_arg0) hostOps0_2 _ hostOps0_2_writes (by decide),
    StableHlo.after_of_writes_sub (r := main_arg0) hostOps0_1 _ hostOps0_1_writes (by decide),
    StableHlo.after_of_writes_sub (r := main_arg0) hostOps0 _ hostOps0_writes (by decide)]

/-- The log-softmax, after the lines before the call. -/
theorem pre_logp (x : Vec Ideal S1024x100000 .f32) (hx : V (Proc.devRef .tc main_arg0) = x)
    (i : Fin 1024) (k : Fin 100000) : pre V (Proc.devRef .tc main_v0) (ix2 i k) = logp x i k := by
  rw [pre_eq, StableHlo.after_of_writes_sub (r := main_v0) hostOps0_3 _ hostOps0_3_writes (by decide),
    StableHlo.after_of_writes_sub (r := main_v0) hostOps0_2 _ hostOps0_2_writes (by decide),
    StableHlo.after_of_writes_sub (r := main_v0) hostOps0_1 _ hostOps0_1_writes (by decide)]
  exact logSoftmax V x hx i k

/-- The first lookup leaves the log-probability of the label. -/
theorem lookup (x : Vec Ideal S1024x100000 .f32) (hx : V (Proc.devRef .tc main_arg0) = x)
    (n : Fin 1024 → Fin 100000) (hy : ∀ i, V (Proc.devRef .tc main_arg1) (ix1 i) = BitVec.ofNat 32 (n i).val)
    (i : Fin 1024) (l : Fin 1) :
    StableHlo.after hostOps0_2 (StableHlo.after hostOps0_1 (StableHlo.after hostOps0 V)) (Proc.devRef .tc main_v2) (ix2 i l)
      = logp x i (n i) := by
  have h0 : StableHlo.after hostOps0_1 (StableHlo.after hostOps0 V) (Proc.devRef .tc main_v0)
      = StableHlo.after hostOps0 V (Proc.devRef .tc main_v0) :=
    StableHlo.after_of_writes_sub (r := main_v0) hostOps0_1 _ hostOps0_1_writes (by decide)
  have h1 : StableHlo.after hostOps0 V (Proc.devRef .tc main_arg1) = V (Proc.devRef .tc main_arg1) :=
    StableHlo.after_of_writes_sub (r := main_arg1) hostOps0 _ hostOps0_writes (by decide)
  refine (chosen (StableHlo.after hostOps0_1 (StableHlo.after hostOps0 V)) _ h0 _ rfl i l).trans ?_
  refine (takeAt_col _ _ i l (n i) ((labels (StableHlo.after hostOps0 V) _ h1 i 0).trans (hy i))).trans ?_
  exact logSoftmax V x hx i (n i)

/-- The chosen log-probabilities, after the lines before the call. -/
theorem pre_chosen (x : Vec Ideal S1024x100000 .f32) (hx : V (Proc.devRef .tc main_arg0) = x)
    (n : Fin 1024 → Fin 100000) (hy : ∀ i, V (Proc.devRef .tc main_arg1) (ix1 i) = BitVec.ofNat 32 (n i).val)
    (i : Fin 1024) : pre V (Proc.devRef .tc main_v3) (ix1 i) = logp x i (n i) := by
  rw [pre_eq]
  exact (chosenVec _ _ rfl i).trans (lookup V x hx n hy i 0)

/-- Minus the mean of the chosen log-probabilities, after the lines before the call. -/
theorem pre_entropy (x : Vec Ideal S1024x100000 .f32) (hx : V (Proc.devRef .tc main_arg0) = x)
    (n : Fin 1024 → Fin 100000) (hy : ∀ i, V (Proc.devRef .tc main_arg1) (ix1 i) = BitVec.ofNat 32 (n i).val) :
    pre V (Proc.devRef .tc main_v6) ix0
      = -Ideal.div (∑ i : Fin 1024, logp x i (n i)) (Ideal.ofBits .f32 0x44800000#32) := by
  rw [pre_eq]
  refine (entropy _ _ rfl).trans ?_
  simp only [lookup V x hx n hy]

/-- The arrays as the lines after the call leave them. -/
abbrev post : Valuation τ sig (Elt Ideal) :=
  StableHlo.after (List.flatten [hostOps1, hostOps1_1, hostOps1_2, hostOps1_3, hostOps1_4, hostOps1_5]) V

/-- The lines after the call, one stretch after the other. -/
theorem post_eq : post V = StableHlo.after hostOps1_5 (StableHlo.after hostOps1_4 (StableHlo.after hostOps1_3
    (StableHlo.after hostOps1_2 (StableHlo.after hostOps1_1 (StableHlo.after hostOps1 V))))) := by
  unfold post
  rw [List.flatten_cons, List.flatten_cons, List.flatten_cons, List.flatten_cons, List.flatten_cons, List.flatten_cons,
    List.flatten_nil, List.append_nil, StableHlo.after_append, StableHlo.after_append, StableHlo.after_append,
    StableHlo.after_append, StableHlo.after_append]

/-- The row of `x` with the columns that do not reach the row's largest score at minus infinity. -/
def best (x : Vec Ideal S1024x100000 .f32) (w : Vec Ideal S1024x100000 .i32) (i : Fin 1024) (k : Fin 100000) : EReal :=
  if rscore (x (ix2 i k)) (w (ix2 i k)) = Finset.univ.sup fun l : Fin 100000 => rscore (x (ix2 i l)) (w (ix2 i l))
    then x (ix2 i k) else ⊥

/-- A selection by a decided condition is the case distinction. -/
theorem select_decide (p : Prop) [Decidable p] (a b : EReal) : Scalar.select (BitVec.ofBool (decide p)) a b = if p then a else b := by
  by_cases h : p <;> simp [h, Scalar.select]

/-- The masked row, after the lines that compute it. -/
theorem masked_best (x : Vec Ideal S1024x100000 .f32) (hx : V (Proc.devRef .tc main_arg0) = x)
    (w : Vec Ideal S1024x100000 .i32) (hw : V (Proc.devRef .tc main_v7) = w) (i : Fin 1024) (k : Fin 100000) :
    StableHlo.after hostOps1_1 (StableHlo.after hostOps1 V) (Proc.devRef .tc main_v26) (ix2 i k) = best x w i k := by
  have hx1 : StableHlo.after hostOps1 V (Proc.devRef .tc main_arg0) = x :=
    (StableHlo.after_of_writes_sub (r := main_arg0) hostOps1 V hostOps1_writes (by decide)).trans hx
  refine (masked (StableHlo.after hostOps1 V) x hx1 _ rfl _ rfl i k).trans ?_
  rw [tied V x hx w hw i k, mask V, Cert.Loss.word_bot, Cert.Loss.fold_max]
  unfold best
  exact select_decide _ _ _

/-- The sampled column of every row: the masked row is largest there. -/
theorem sampled (x : Vec Ideal S1024x100000 .f32) (hx : V (Proc.devRef .tc main_arg0) = x)
    (w : Vec Ideal S1024x100000 .i32) (hw : V (Proc.devRef .tc main_v7) = w) (i : Fin 1024) :
    ∃ r : Fin 100000, StableHlo.after hostOps1_2 (StableHlo.after hostOps1_1 (StableHlo.after hostOps1 V))
        (Proc.devRef .tc main_v27) (ix1 i) = BitVec.ofNat 32 r.val ∧ ∀ k, best x w i k ≤ best x w i r := by
  obtain ⟨r, hr, hm⟩ := argmax_row (StableHlo.after hostOps1_1 (StableHlo.after hostOps1 V) (Proc.devRef .tc main_v26)) i
  refine ⟨r, (sampledCol _ _ rfl i).trans hr, fun k => ?_⟩
  have h := hm k
  rw [masked_best V x hx w hw i k, masked_best V x hx w hw i r] at h
  exact h

/-- The loss, after the lines after the call: from the log-probabilities of the labels and of the sampled columns. -/
theorem post_loss (x : Vec Ideal S1024x100000 .f32) (hx : V (Proc.devRef .tc main_arg0) = x)
    (w : Vec Ideal S1024x100000 .i32) (hw : V (Proc.devRef .tc main_v7) = w)
    (hp : ∀ i k, V (Proc.devRef .tc main_v0) (ix2 i k) = logp x i k) (a : Fin 1024 → EReal)
    (ha : ∀ i, V (Proc.devRef .tc main_v3) (ix1 i) = a i) (e : EReal) (he : V (Proc.devRef .tc main_v6) ix0 = e) :
    ∃ r : Fin 1024 → Fin 100000, (∀ i k, best x w i k ≤ best x w i (r i)) ∧
      post V (Proc.devRef .tc main_v52) ix0
        = Ideal.div (∑ i : Fin 1024, (Ideal.ofBits .f32 0x3DCCCCCD#32
            * Ideal.log (Ideal.div 1 (1 + Ideal.exp (-(rodds (a i) (logp x i (r i)))))) + e))
            (Ideal.ofBits .f32 0x44800000#32) := by
  choose r hr hm using sampled V x hx w hw
  refine ⟨r, hm, ?_⟩
  rw [post_eq]
  have h0 : StableHlo.after hostOps1_3 (StableHlo.after hostOps1_2 (StableHlo.after hostOps1_1 (StableHlo.after hostOps1 V))) (Proc.devRef .tc main_v0)
      = V (Proc.devRef .tc main_v0) := by
    rw [StableHlo.after_of_writes_sub (r := main_v0) hostOps1_3 _ hostOps1_3_writes (by decide),
      StableHlo.after_of_writes_sub (r := main_v0) hostOps1_2 _ hostOps1_2_writes (by decide),
      StableHlo.after_of_writes_sub (r := main_v0) hostOps1_1 _ hostOps1_1_writes (by decide),
      StableHlo.after_of_writes_sub (r := main_v0) hostOps1 _ hostOps1_writes (by decide)]
  have h3 : StableHlo.after hostOps1_4 (StableHlo.after hostOps1_3 (StableHlo.after hostOps1_2 (StableHlo.after hostOps1_1 (StableHlo.after hostOps1 V)))) (Proc.devRef .tc main_v3)
      = V (Proc.devRef .tc main_v3) := by
    rw [StableHlo.after_of_writes_sub (r := main_v3) hostOps1_4 _ hostOps1_4_writes (by decide),
      StableHlo.after_of_writes_sub (r := main_v3) hostOps1_3 _ hostOps1_3_writes (by decide),
      StableHlo.after_of_writes_sub (r := main_v3) hostOps1_2 _ hostOps1_2_writes (by decide),
      StableHlo.after_of_writes_sub (r := main_v3) hostOps1_1 _ hostOps1_1_writes (by decide),
      StableHlo.after_of_writes_sub (r := main_v3) hostOps1 _ hostOps1_writes (by decide)]
  have h6 : StableHlo.after hostOps1_4 (StableHlo.after hostOps1_3 (StableHlo.after hostOps1_2 (StableHlo.after hostOps1_1 (StableHlo.after hostOps1 V)))) (Proc.devRef .tc main_v6)
      = V (Proc.devRef .tc main_v6) := by
    rw [StableHlo.after_of_writes_sub (r := main_v6) hostOps1_4 _ hostOps1_4_writes (by decide),
      StableHlo.after_of_writes_sub (r := main_v6) hostOps1_3 _ hostOps1_3_writes (by decide),
      StableHlo.after_of_writes_sub (r := main_v6) hostOps1_2 _ hostOps1_2_writes (by decide),
      StableHlo.after_of_writes_sub (r := main_v6) hostOps1_1 _ hostOps1_1_writes (by decide),
      StableHlo.after_of_writes_sub (r := main_v6) hostOps1 _ hostOps1_writes (by decide)]
  refine (loss _ _ h3 _ rfl _ h6).trans ?_
  have hb : ∀ i : Fin 1024, StableHlo.after hostOps1_4 (StableHlo.after hostOps1_3 (StableHlo.after hostOps1_2
      (StableHlo.after hostOps1_1 (StableHlo.after hostOps1 V)))) (Proc.devRef .tc main_v29) (ix2 i 0) = logp x i (r i) := by
    intro i
    refine (rejected _ _ h0 _ rfl i 0).trans ?_
    exact (takeAt_col _ _ i 0 (r i) ((samples _ _ rfl i 0).trans (hr i))).trans (hp i (r i))
  simp only [hb, ha, he]

end Cert.ReferenceIdeal.Host

end

end
-- ==== Proof.ReferenceIdeal.Run.lean ====
module

public import proofs.«01_k».proof.Proof.Gen.ReferenceIdeal.Frame.RunA
public import Idealize.ShloMosaic.Lib.Claim
public import Idealize.ShloMosaic.PureOps.Ideal.Laws

@[expose] public section

set_option maxRecDepth 16384

/-! # The run of the reference

The call that draws the words runs at every grid point, and the reference as a whole terminates, leaves its two
arguments as they were and every counter at zero. -/

noncomputable section

namespace Cert.ReferenceIdeal.Host

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

/-- The resources of the separation logic the runs are stated in. -/
local notation "𝕄" => MT nD τ sig Unit (Elt Ideal) ℕ (UR sig nD τ) ℕ

variable (m : (ℓ : Loc nD τ sig) → Buf (Elt Ideal) ℓ) (ρ : Dev nD → PrngReg)

/-- What the body of the call stores at grid point `t`, as the run finds it. -/
abbrev stored (c : Dev nD) (t : Fin cfg0.N) (g : PrngReg) : List (View.Piece (Elt Ideal) S32x100000 .i32) :=
  (kernelRun0_A (F := Ideal) c (grid0.coords t) (ms0_0 t) (hs0_0 t) g).1

/-- The stores fill the whole block. -/
theorem stored_covers (c : Dev nD) (t : Fin cfg0.N) (g : PrngReg) (y : S32x100000.Idx) :
    ∃ pc ∈ stored c t g, y ∈ pc.1.set :=
  View.cover_of_tiledL (stored c t g) S32x100000.size (by sl_kernel_rfl) y

/-- What grid point `t` leaves in its block. -/
def block (c : Dev nD) (t : Fin cfg0.N) : Vec Ideal S32x100000 .i32 :=
  VO0_0.read (Elt Ideal) (VO0_0.writes (Elt Ideal) VO0_0.junk (stored c t default))

/-- What the pipeline of the call holds: its array as the lines before leave it, and after every point that point's block. -/
def dats (_ : Fin 1) (c : Dev nD) : Dat τ (Elt Ideal) Unit ℕ (UR sig nD τ) ℕ cfg0 c where
  A w := V m c (Pipeline.arrRef spec0 w)
  after w t := match w with
    | ⟨0, _⟩ => block c t
  Φ _ := Pipeline.ΦA spec0 c
  q _ := fullShare
  owed _ := 0

/-- The call finds its array as the lines before leave it. -/
theorem entry (c : Dev nD) (w : Fin cfg0.W) : (dats m 0 c).A w = V m c (Pipeline.arrRef spec0 w) := by
  dsimp only [dats]

/-- After a point its block holds what the point leaves. -/
theorem after_block (c : Dev nD) (t : Fin cfg0.N) : (dats m 0 c).after 0 t = block c t := by dsimp only [dats]

/-- What the body is given at a grid point. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

/-- What the body gives back. -/
def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

/-- The body runs at every grid point: it takes the generator register, and gives it back in some state. -/
theorem body_runs (c : Dev nD) (t : Fin cfg0.N) :
    given m c t ⊢ wp frame (wpE (defs₀ (F := Ideal)) Variants.none c none) Set.univ (bodyAt0 t) (fun _ => returned m c t) := by
  unfold given returned bodyAt0
  rw [show (dats m 0 c).Φ t.succ = (dats m 0 c).Φ t.castSucc from rfl,
    show (dats m 0 c).owesAt () t.succ = (dats m 0 c).owesAt () t.castSucc from rfl, after_block]
  rw [show (dats m 0 c).Φ t.castSucc = Pipeline.ΦA spec0 c from rfl]
  unfold Pipeline.ΦA block
  iintro ⟨⟨Hr, ⟨%g, Hg⟩⟩, Ho, ⟨%d, H⟩⟩
  iapply ((kernelRun0_A (F := Ideal) c (grid0.coords t) _ (hs0_0 t) g).2 Set.univ _)
  isplitl [H]; · iexists _; iexact H
  isplitl [Hg]; · iexact Hg
  iintro ⟨⟨%e, H⟩, Hg⟩
  isplitl [Hr Hg]
  · isplitl [Hr]; · iexact Hr
    iexact Hg
  isplitl [Ho]; · iexact Ho
  unfold owns; iexists _; isplitr
  swap; · iexact H
  ipureintro; exact View.read_writes_of_cover _ _ _ _ _ (stored_covers c t g)

/-- The pipeline's table runs this body at every grid point. -/
theorem table_row (t : Fin cfg0.N) :
    defs₀ (F := Ideal) .tc cfg0.body (cfg0.bodyArgs t (cfg0.slots t)) = bodyAt0 t := by
  unfold defs₀; rw [Defs.onTc_tc]

/-- The obligation the pipeline has on its body. -/
theorem obligation (c : Dev nD) : BodyObligation (dats m 0 c) (defs₀ (F := Ideal)) Variants.none () Set.univ := fun t => by
  rw [bigSep_W0, bigSep_W0, table_row]
  exact triple_restated (body_runs m c t) rfl .rfl fun _ => .rfl

/-- The arrays as the lines after the call leave them. -/
abbrev final : (c : Dev nD) → (b : Ref sig .tc) → Buf (Elt Ideal) ((c : Thread nD τ).loc b) :=
  Pipeline.afterTail₀ cfgs (dats m) 0 (V0 m) [hostOps1, hostOps1_1, hostOps1_2, hostOps1_3, hostOps1_4, hostOps1_5]

set_option backward.isDefEq.respectTransparency.types false in
set_option maxHeartbeats 800000 in
/-- The reference terminates, with every array as computed and every counter at zero. -/
theorem run : θ_run defs (onTc (τ := τ) (main (F := Ideal))) (s₀ m ρ)
    (fun r => Pipeline.FramePost cfgs (dats m) 0 (final m) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1, hostOps1_1, hostOps1_2, hostOps1_3, hostOps1_4, hostOps1_5]) (hsub := sfx_sub) (hfresh := sfx_fresh) (hkeep := sfx_keeps)
    (hmain := hmain m Variants.none) (hA := entry m) (hΦ := fun _ _ => rfl)

/-- The reference leaves its arguments as they were. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (entry m) ((θ_run defs _ _).mono (fun _ h => h.1) (run m ρ))

/-- The reference terminates, leaves its arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run m ρ))

/-- The reference's result, and its arguments, at the end. -/
theorem run_result : θ_run defs (onTc (τ := τ) (main (F := Ideal))) ⟨m, fun _ => 0, ρ⟩ (fun r => ∀ c : Dev nD,
      r.2.mem ((c.tc : Thread nD τ).loc main_v52) = final m c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1.1 c).2 main_v52 (Pipeline.mem_restRefs_of main_v52 (by decide) (by decide)), h.2 c⟩)
    (θ_run_and (run m ρ) (unchanged m ρ))

end Cert.ReferenceIdeal.Host

end

end
-- ==== Proof.ReferenceIdeal.Words.lean ====
module

public import proofs.«01_k».proof.Proof.ReferenceIdeal.Run
public import proofs.«01_k».proof.Proof.Math.Words
public import Idealize.ShloMosaic.Lib.Pipeline.ValueKit

@[expose] public section

set_option maxRecDepth 16384

/-! # The words the reference's call draws -/

noncomputable section

namespace Cert.ReferenceIdeal.Host

open Idealize.ShloMosaic Idealize.ShloMosaic.TcCoe Idealize.SL.Sem
open Cert.ReferenceIdeal Cert.ReferenceIdeal.Gen
open Idealize.ShloMosaic.Pointwise

/-- The block number and the coordinate of every grid point. -/
theorem index0 : ∀ t : Fin cfg0.N, win0_0.index t = ![t.val, 0] ∧ (grid0.coords t 0).val = t.val :=
  (by decide +kernel : ∀ t : Fin grid0.N, win0_0.index t = ![t.val, 0] ∧ (grid0.coords t 0).val = t.val)

/-- The offset the whole-block accesses are written with. -/
theorem zero2 : (![0, 0] : Fin 2 → ℕ) = fun _ => 0 := by decide

/-- What a grid point leaves in its block: the words of its seed. -/
theorem block_words (c : Dev nD) (t : Fin cfg0.N) : block c t = Cert.Loss.words t.val := by
  unfold block
  rw [View.read_writes_eq_canon _ _ _ (stored_covers c t default)]
  unfold stored kernelRun0_A
  dsimp only
  refine (View.canon_unit_zero (Val := Elt Ideal) (S := S32x100000) zero2 _ _).trans ?_
  unfold kernelRun0_A.sl.r Cert.Loss.words
  dsimp only
  rw [(index0 t).2]

variable (m : (ℓ : Loc nD τ sig) → Buf (Elt Ideal) ℓ)

/-- The array of words the call leaves. -/
theorem words_arr (c : Dev nD) :
    (dats m 0 c).arrAt 0 cfg0.N = fun j : S1024x100000.Idx => Cert.Loss.word (j 0) (j 1) := by
  refine (dats m 0 c).arrAt_eq_of_covers 0 _ (by decide +kernel) fun t hf y => ?_
  blk_simp
  rw [after_block, block_words]
  obtain ⟨r, k, rfl⟩ : ∃ (r : Fin 32) (k : Fin 100000), y = ix2 r k := ⟨y 0, y 1, by
    funext a; match a with | ⟨0, _⟩ => rfl | ⟨1, _⟩ => rfl⟩
  have hi := (index0 t).1
  have e0 : ((win0_0.blk t).view.emb (ix2 r k) 0).val = t.val * 32 + r.val := by
    blk_simp [hi]
  have e1 : ((win0_0.blk t).view.emb (ix2 r k) 1) = k := by
    apply Fin.ext
    blk_simp [hi]
  rw [e1]
  exact (Cert.Loss.word_at t.val r _ k e0).symm

end Cert.ReferenceIdeal.Host

end

end
-- ==== Proof.ReferenceIdeal.Value.lean ====
module

public import proofs.«01_k».proof.Proof.ReferenceIdeal.Chain
public import proofs.«01_k».proof.Proof.ReferenceIdeal.Words

@[expose] public section

set_option maxRecDepth 16384

/-! # The loss the reference leaves -/

noncomputable section

namespace Cert.ReferenceIdeal.Host

open Idealize.ShloMosaic Idealize.ShloMosaic.TcCoe Idealize.SL.Sem
open Cert.ReferenceIdeal Cert.ReferenceIdeal.Gen
open Idealize.ShloMosaic.Pointwise

variable (m : (ℓ : Loc nD τ sig) → Buf (Elt Ideal) ℓ)

/-- The words as an array. -/
def wordsArr : Vec Ideal S1024x100000 .i32 := fun j => Cert.Loss.word (j 0) (j 1)

/-- The reference's loss: from the log-probabilities of the labels and of the columns it samples, one of the columns
where the masked row is largest. -/
theorem value (c : Dev nD) (x : Vec Ideal S1024x100000 .f32) (hx : m ((c : Thread nD τ).loc main_arg0) = x)
    (n : Fin 1024 → Fin 100000) (hy : ∀ i, m ((c : Thread nD τ).loc main_arg1) (ix1 i) = BitVec.ofNat 32 (n i).val) :
    ∃ r : Fin 1024 → Fin 100000, (∀ i k, best x wordsArr i k ≤ best x wordsArr i (r i)) ∧
      final m c main_v52 ix0
        = Ideal.div (∑ i : Fin 1024, (Ideal.ofBits .f32 0x3DCCCCCD#32
            * Ideal.log (Ideal.div 1 (1 + Ideal.exp (-(rodds (logp x i (n i)) (logp x i (r i))))))
            + -Ideal.div (∑ i : Fin 1024, logp x i (n i)) (Ideal.ofBits .f32 0x44800000#32)))
            (Ideal.ofBits .f32 0x44800000#32) := by
  have keep : ∀ b : Ref sig .tc, (∀ w, Pipeline.arrRef spec0 w ≠ b) →
      Pipeline.withArrays spec0 c (V0 m c) (fun w => (dats m 0 c).arrAt w cfg0.N) (Proc.devRef .tc b) = V0 m c (Proc.devRef .tc b) :=
    fun b hb => Pipeline.withArrays_of_ne spec0 c (V0 m c) _ b hb
  have hw : Pipeline.withArrays spec0 c (V0 m c) (fun w => (dats m 0 c).arrAt w cfg0.N) (Proc.devRef .tc main_v7) = wordsArr :=
    (Pipeline.withArrays_arr spec0 launch0.win.arr_inj c _ _ 0).trans (words_arr m c)
  refine post_loss (Pipeline.withArrays spec0 c (V0 m c) fun w => (dats m 0 c).arrAt w cfg0.N) x
    ((keep main_arg0 (by decide)).trans ((pre_arg0 _).trans hx)) wordsArr hw
    (fun i k => (congrFun (keep main_v0 (by decide)) _).trans (pre_logp _ x hx i k))
    (fun i => logp x i (n i))
    (fun i => (congrFun (keep main_v3 (by decide)) _).trans (pre_chosen _ x hx n hy i)) _
    ((congrFun (keep main_v6 (by decide)) _).trans (pre_entropy _ x hx n hy))

end Cert.ReferenceIdeal.Host

end

end
-- ==== Proof.Math.Pick.lean ====
module

public import proofs.«01_k».proof.Proof.Math.Row

@[expose] public section

/-! # Choosing the sampled column

The kernel takes the largest entry among the columns whose score is the row's largest score.
The reference takes the entry at a column where the masked row is largest.
Both are the same number, also when no entry but minus infinity is tied. -/

namespace Cert.Loss

open Idealize.ShloMosaic

/-- A score that is bottom wherever the entry is bottom: the entry at a column where the masked row
attains its largest value is that largest value. -/
theorem pick {n : ℕ} (f v : Fin n → EReal) (hv : ∀ k, f k = ⊥ → v k = ⊥) (r : Fin n)
    (hr : ∀ k, (if v k = Finset.univ.sup v then f k else ⊥) ≤
      (if v r = Finset.univ.sup v then f r else ⊥)) :
    f r = Finset.univ.sup fun k => if v k = Finset.univ.sup v then f k else ⊥ := by
  have hm : (Finset.univ.sup fun k => if v k = Finset.univ.sup v then f k else ⊥)
      = (if v r = Finset.univ.sup v then f r else ⊥) :=
    le_antisymm (Finset.sup_le fun k _ => hr k)
      (Finset.le_sup (f := fun k => if v k = Finset.univ.sup v then f k else ⊥) (Finset.mem_univ r))
  rw [hm]
  split
  · rfl
  · rename_i hne
    obtain ⟨j, -, hj⟩ := Finset.exists_mem_eq_sup Finset.univ ⟨r, Finset.mem_univ r⟩ v
    exfalso
    have h := hr j
    rw [if_pos hj.symm, if_neg hne] at h
    have hb := hv j (le_bot_iff.1 h)
    apply hne
    rw [hj, hb]
    exact le_bot_iff.1 (hb ▸ hj ▸ Finset.le_sup (f := v) (Finset.mem_univ r))

end Cert.Loss

end
-- ==== Proof.Math.Score.lean ====
module

public import proofs.«01_k».proof.Proof.Math.Row

@[expose] public section

/-! # The score of one column

The two programs turn a random word into a uniform number and divide by the temperature in two ways.
Both ways give the same number. -/

namespace Cert.Loss

open Idealize.ShloMosaic

/-- The word nine places down, as a natural number. -/
theorem top_bits (w : BitVec 32) : (w >>> (9#32)).toNat = w.toNat / 512 := by
  simp [BitVec.toNat_ushiftRight, Nat.shiftRight_eq_div_pow]

/-- The top 23 bits of a word under the exponent of one. -/
theorem one_bits (w : BitVec 32) :
    ((w >>> (9#32)) ||| 0x3F800000#32).toNat = 127 * 2 ^ 23 + w.toNat / 512 := by
  have hw := w.isLt
  have hlt : w.toNat / 512 < 2 ^ 23 := by omega
  rw [BitVec.toNat_or, top_bits, Nat.or_comm]
  have := Nat.two_pow_add_eq_or_of_lt hlt 127
  rw [show (0x3F800000#32).toNat = 2 ^ 23 * 127 from rfl, ← this]
  omega

/-- Placing the top 23 bits of a word under the exponent of one and taking one away gives the same number
as reading those bits as an integer and multiplying by two to the minus twenty-three. -/
theorem uniform (w : BitVec 32) :
    Ideal.ofBits .f32 (IntOp.ori (IntOp.shrui .vector w 9#32) 0x3F800000#32) - 1
      = (((IntOp.shrui .host w 9#32).toInt : ℝ) : EReal) * Ideal.ofBits .f32 0x34000000#32 := by
  have hw := w.isLt
  have hlt : w.toNat / 512 < 2 ^ 23 := by omega
  have e1 : IntOp.shrui .vector w 9#32 = w >>> (9#32) := rfl
  have e2 : IntOp.shrui .host w 9#32 = w >>> (9#32) := rfl
  have hi : (w >>> (9#32)).toInt = ((w.toNat / 512 : ℕ) : ℤ) := by
    rw [BitVec.toInt_eq_toNat_of_lt (by rw [top_bits]; omega), top_bits]
  have hb := one_bits w
  have h1 : Ideal.ofBits .f32 ((w >>> (9#32)) ||| 0x3F800000#32)
      = (((2 ^ 23 + w.toNat / 512 : ℕ) : ℝ) * (2 : ℝ) ^ (-23 : ℤ) : ℝ) := by
    have hs : ((w >>> (9#32)) ||| 0x3F800000#32).extractLsb' (8 + 23) 1 = 0#1 := by
      apply BitVec.eq_of_toNat_eq
      rw [BitVec.extractLsb'_toNat, hb, Nat.shiftRight_eq_div_pow]
      simp; omega
    have hex : (((w >>> (9#32)) ||| 0x3F800000#32).extractLsb' 23 8).toNat = 127 := by
      rw [BitVec.extractLsb'_toNat, hb, Nat.shiftRight_eq_div_pow]; omega
    have hfr : (((w >>> (9#32)) ||| 0x3F800000#32).extractLsb' 0 23).toNat = w.toNat / 512 := by
      rw [BitVec.extractLsb'_toNat, hb, Nat.shiftRight_eq_div_pow]; omega
    simp only [Ideal.ofBits, Ideal.ieee, hs, hex, hfr]
    norm_num
  have h2 : Ideal.ofBits .f32 0x34000000#32 = (((2 : ℝ) ^ (-23 : ℤ) : ℝ) : EReal) := by
    simp [Ideal.ofBits, Ideal.ieee, -EReal.coe_mul]
    norm_num
  rw [e1, e2, hi, h2, show IntOp.ori (w >>> (9#32)) 0x3F800000#32 = (w >>> (9#32)) ||| 0x3F800000#32 from rfl, h1,
    show (1 : EReal) = ((1 : ℝ) : EReal) from rfl, ← EReal.coe_sub, ← EReal.coe_mul]
  congr 1
  rw [Nat.cast_add, Int.cast_natCast]
  norm_num
  ring

/-- The float word for seven tenths denotes this fraction. -/
theorem word_temp : Ideal.ofBits .f32 0x3F333333#32 = ((11744051 / 16777216 : ℝ) : EReal) := by
  simp [Ideal.ofBits, Ideal.ieee, -EReal.coe_mul]
  norm_num

/-- Multiplying by the exact reciprocal of the temperature is dividing by the temperature. -/
theorem temp (x : EReal) :
    x * ((16777216 / 11744051 : ℝ) : EReal) = Ideal.div x (Ideal.ofBits .f32 0x3F333333#32) := by
  rw [word_temp, Ideal.div_coe (by norm_num)]
  norm_num

/-- A column whose entry is minus infinity has the score minus infinity. -/
theorem score_bot (c : ℝ) (hc : 0 < c) (g : EReal) : (⊥ : EReal) * (c : EReal) + g = ⊥ := by
  rw [EReal.bot_mul_coe_of_pos hc, EReal.bot_add]

end Cert.Loss

end
-- ==== Proof.Math.Total.lean ====
module

public import proofs.«01_k».proof.Proof.Math.Row

@[expose] public section

/-! # From the two columns of log-probabilities to the loss

The kernel adds two means, the reference takes one mean of the added rows. -/

namespace Cert.Loss

open Idealize.ShloMosaic

/-- The kernel's stable form of the logarithm of the logistic function. -/
theorem log_logistic (z : EReal) :
    min z 0 - Ideal.log1p (Ideal.exp (0 - FloatOps.absf (F := Ideal) (φ := .f32) z))
      = Ideal.log (Ideal.div 1 (1 + Ideal.exp (-z))) := by
  rw [Ideal.absf_def, zero_sub]
  unfold Ideal.log1p
  induction z with
  | bot =>
    have h : (1 : EReal) + ⊤ = ⊤ := rfl
    have h0 : Ideal.log 0 = ⊥ := by rw [← EReal.coe_zero, Ideal.log_coe]; simp
    simp [Ideal.div, Ideal.exp_top, Ideal.exp_bot, h, h0]
  | top =>
    have h1 : Ideal.log 1 = 0 := by rw [← EReal.coe_one, Ideal.log_coe]; simp
    simp [Ideal.div, Ideal.exp_top, Ideal.exp_bot, h1]
  | coe r =>
    have hp : 0 < 1 + Real.exp (-r) := by positivity
    have hR : Ideal.log (Ideal.div 1 (1 + Ideal.exp (-(r : EReal)))) = ((-Real.log (1 + Real.exp (-r)) : ℝ) : EReal) := by
      rw [← EReal.coe_neg, Ideal.exp_coe, show (1 : EReal) = ((1 : ℝ) : EReal) from rfl, ← EReal.coe_add,
        Ideal.div_coe hp.ne', ← EReal.coe_mul, Ideal.log_coe, if_neg (not_le.2 (by positivity))]
      congr 1
      rw [one_mul, one_div, Real.log_inv]
    rw [hR]
    rcases le_total 0 r with h | h
    · have h1 : max (r : EReal) (-(r : EReal)) = (r : EReal) := by
        rw [← EReal.coe_neg]; exact max_eq_left (by exact_mod_cast (by linarith : -r ≤ r))
      rw [h1, min_eq_right (by exact_mod_cast h), ← EReal.coe_neg, Ideal.exp_coe,
        show (1 : EReal) = ((1 : ℝ) : EReal) from rfl, ← EReal.coe_add, Ideal.log_coe, if_neg (not_le.2 hp), zero_sub,
        EReal.coe_neg]
    · have h1 : max (r : EReal) (-(r : EReal)) = ((-r : ℝ) : EReal) := by
        rw [← EReal.coe_neg]; exact max_eq_right (by exact_mod_cast (by linarith : r ≤ -r))
      have hq : 0 < 1 + Real.exp r := by positivity
      rw [h1, min_eq_left (by exact_mod_cast h), ← EReal.coe_neg, neg_neg, Ideal.exp_coe,
        show (1 : EReal) = ((1 : ℝ) : EReal) from rfl, ← EReal.coe_add, Ideal.log_coe, if_neg (not_le.2 hq), ← EReal.coe_sub]
      congr 1
      have : 1 + Real.exp (-r) = Real.exp (-r) * (1 + Real.exp r) := by
        rw [mul_add, ← Real.exp_add]; simp [add_comm]
      rw [this, Real.log_mul (Real.exp_pos _).ne' hq.ne', Real.log_exp]
      ring

/-- Multiplying by a nonnegative real number goes through a finite sum. -/
theorem mul_sum_real {n : ℕ} (c : ℝ) (hc : 0 ≤ c) (g : Fin n → EReal) :
    (c : EReal) * ∑ k, g k = ∑ k, (c : EReal) * g k := by
  induction (Finset.univ : Finset (Fin n)) using Finset.induction_on with
  | empty => simp
  | insert a s ha ih =>
    rw [Finset.sum_insert ha, Finset.sum_insert ha,
      EReal.left_distrib_of_nonneg_of_ne_top (by exact_mod_cast hc) (EReal.coe_ne_top c), ih]

/-- The float word for the number of rows denotes that number. -/
theorem word_rows : Ideal.ofBits .f32 0x44800000#32 = ((1024 : ℝ) : EReal) := by
  simp [Ideal.ofBits, Ideal.ieee, -EReal.coe_mul]
  norm_num

/-- The float word for one tenth denotes a positive real number. -/
theorem word_tenth : ∃ c : ℝ, 0 ≤ c ∧ Ideal.ofBits .f32 0x3DCCCCCD#32 = (c : EReal) :=
  ⟨13421773 * (2 : ℝ) ^ (-27 : ℤ), by positivity, by
    simp [Ideal.ofBits, Ideal.ieee, -EReal.coe_mul]⟩

/-- The mean of rows `c * s + e` is `c` times the mean of the `s` plus the constant `e`. -/
theorem mean_split (c : ℝ) (hc : 0 ≤ c) (s : Fin 1024 → EReal) (e : EReal) :
    Ideal.div (∑ x, ((c : EReal) * s x + e)) (Ideal.ofBits .f32 0x44800000#32)
      = (c : EReal) * Ideal.div (∑ x, s x) (Ideal.ofBits .f32 0x44800000#32) + e := by
  have hk : (0 : EReal) ≤ ((1 / 1024 : ℝ) : EReal) := by exact_mod_cast (by norm_num : (0 : ℝ) ≤ 1 / 1024)
  rw [word_rows, Ideal.div_coe (by norm_num), Ideal.div_coe (by norm_num), Finset.sum_add_distrib, ← mul_sum_real c hc,
    Finset.sum_const, Finset.card_univ, Fintype.card_fin, EReal.nsmul_eq_mul,
    EReal.right_distrib_of_nonneg_of_ne_top hk (EReal.coe_ne_top _), mul_assoc]
  congr 1
  rw [mul_comm, ← mul_assoc, show ((1024 : ℕ) : EReal) = ((1024 : ℝ) : EReal) from by norm_cast, ← EReal.coe_mul]
  norm_num

/-- The loss the kernel computes from the two columns is the loss the reference computes from them. -/
theorem total (a z z' : Fin 1024 → EReal) (hz : ∀ x, z x = z' x) :
    Ideal.ofBits .f32 0x3DCCCCCD#32 * Ideal.div (∑ x, ∑ _l : Fin 1,
        (min (z x) 0 - Ideal.log1p (Ideal.exp (0 - FloatOps.absf (F := Ideal) (φ := .f32) (z x)))))
        (Ideal.ofBits .f32 0x44800000#32)
      + (0 - Ideal.div (∑ x, ∑ _l : Fin 1, a x) (Ideal.ofBits .f32 0x44800000#32))
    = Ideal.div (∑ x, (Ideal.ofBits .f32 0x3DCCCCCD#32 * Ideal.log (Ideal.div 1 (1 + Ideal.exp (-(z' x))))
        + -Ideal.div (∑ x, a x) (Ideal.ofBits .f32 0x44800000#32))) (Ideal.ofBits .f32 0x44800000#32) := by
  obtain ⟨c, hc, hw⟩ := word_tenth
  simp only [hw, Fin.sum_univ_one, hz, log_logistic]
  rw [zero_sub]
  exact (mean_split c hc _ _).symm

end Cert.Loss

end
-- ==== Proof.Link.Columns.lean ====
module

public import proofs.«01_k».proof.Proof.KernelIdeal.Rows
public import proofs.«01_k».proof.Proof.ReferenceIdeal.Chain
public import proofs.«01_k».proof.Proof.Math.Pick
public import proofs.«01_k».proof.Proof.Math.Score
public import proofs.«01_k».proof.Proof.Math.Total

@[expose] public section

set_option maxRecDepth 16384

/-! # The kernel's columns are the reference's

The kernel finds a log-probability by a sum or a maximum over the row, the reference by an index into the log-softmax. -/

noncomputable section

namespace Cert.Link

open Idealize.ShloMosaic Idealize.SL.Sem
open Idealize.ShloMosaic.Pointwise
open Cert.KernelIdeal.Whole (kscore kodds kchosen ksampled)
open Cert.ReferenceIdeal.Host (rscore rodds logp best)

/-- The sum that keeps the column asked for is the entry of that column. -/
theorem chosen_eq (x : Vec Ideal Cert.ReferenceIdeal.S1024x100000 .f32) (i : Fin 1024) (n : Fin 100000) :
    kchosen (fun k => x (ix2 i k)) (BitVec.ofNat 32 n.val) = logp x i n := by
  unfold kchosen logp Cert.KernelIdeal.Whole.lse
  have h : ∀ k : Fin 100000, Scalar.select (IntOp.cmpi .eq (BitVec.ofNat 32 k.val) (BitVec.ofNat 32 n.val)) (x (ix2 i k) : EReal) 0
      = if k = n then (x (ix2 i k) : EReal) else 0 := by
    intro k
    have hc : IntOp.cmpi .eq (BitVec.ofNat 32 k.val) (BitVec.ofNat 32 n.val) = BitVec.ofBool (decide (k = n)) := by
      have hk := k.isLt
      have hn := n.isLt
      have : (BitVec.ofNat 32 k.val = BitVec.ofNat 32 n.val) ↔ k = n := by
        rw [← BitVec.toNat_inj, BitVec.toNat_ofNat, BitVec.toNat_ofNat, Nat.mod_eq_of_lt (by omega), Nat.mod_eq_of_lt (by omega),
          Fin.ext_iff]
      simp only [IntOp.cmpi, ← this, beq_eq_decide]
    rw [hc, Cert.ReferenceIdeal.Host.select_decide]
  simp only [h]
  rw [Finset.sum_ite_eq' Finset.univ n (fun k : Fin 100000 => (x (ix2 i k) : EReal)), if_pos (Finset.mem_univ n)]

/-- The two programs give every column the same score. -/
theorem score_eq (x : EReal) (w : BitVec 32) : kscore x w = rscore x w := by
  unfold kscore rscore
  rw [Cert.Loss.uniform, zero_sub, zero_sub, ← Cert.Loss.temp]
  rfl

/-- A column at minus infinity has the score minus infinity. -/
theorem score_bot (w : BitVec 32) : rscore ⊥ w = ⊥ := by
  unfold rscore
  rw [← Cert.Loss.temp]
  exact Cert.Loss.score_bot _ (by norm_num) _

/-- The largest entry among the columns with the largest score is the entry of the column the reference samples. -/
theorem sampled_eq (x : Vec Ideal Cert.ReferenceIdeal.S1024x100000 .f32) (w : Vec Ideal Cert.ReferenceIdeal.S1024x100000 .i32)
    (i : Fin 1024) (r : Fin 100000) (hr : ∀ k, best x w i k ≤ best x w i r) :
    ksampled (fun k => x (ix2 i k)) (fun k => w (ix2 i k)) = logp x i r := by
  unfold ksampled logp Cert.KernelIdeal.Whole.lse
  simp only [score_eq, Cert.Loss.word_bot, Cert.Loss.fold_max]
  rw [← Cert.Loss.pick (fun k : Fin 100000 => (x (ix2 i k) : EReal)) (fun k : Fin 100000 => rscore (x (ix2 i k)) (w (ix2 i k)))
    (fun k hk => (congrArg (fun z => rscore z (w (ix2 i k))) hk).trans (score_bot _)) r hr]

/-- The two programs write the log-odds alike. -/
theorem odds_eq (a b : EReal) : kodds a b = rodds a b := by
  unfold kodds rodds
  rw [zero_sub, zero_sub]

end Cert.Link

end

end
-- ==== Proof.Link.Loss.lean ====
module

public import proofs.«01_k».proof.Proof.KernelIdeal.Value
public import proofs.«01_k».proof.Proof.ReferenceIdeal.Value
public import proofs.«01_k».proof.Proof.Link.Columns

@[expose] public section

set_option maxRecDepth 16384

/-! # The two losses are equal -/

noncomputable section

namespace Cert.Link

open Idealize.ShloMosaic Idealize.ShloMosaic.TcCoe Idealize.SL.Sem
open Idealize.ShloMosaic.Pointwise
open Cert.ReferenceIdeal.Host (rodds logp best wordsArr)

/-- From memories that agree on the arguments, with every label a column number, the kernel and the reference leave the
same loss. -/
theorem loss_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (x : Vec Ideal Cert.ReferenceIdeal.S1024x100000 .f32)
    (hx : m ((c.tc : Thread Cert.KernelIdeal.nD Cert.KernelIdeal.τ).loc Cert.KernelIdeal.main_arg0) = x)
    (hx' : m' ((c.tc : Thread Cert.ReferenceIdeal.nD Cert.ReferenceIdeal.τ).loc Cert.ReferenceIdeal.main_arg0) = x)
    (n : Fin 1024 → Fin 100000)
    (hy : ∀ i, m ((c.tc : Thread Cert.KernelIdeal.nD Cert.KernelIdeal.τ).loc Cert.KernelIdeal.main_arg1) (ix1 i) = BitVec.ofNat 32 (n i).val)
    (hy' : ∀ i, m' ((c.tc : Thread Cert.ReferenceIdeal.nD Cert.ReferenceIdeal.τ).loc Cert.ReferenceIdeal.main_arg1) (ix1 i) = BitVec.ofNat 32 (n i).val) :
    Cert.KernelIdeal.Whole.W4 m ρ c (Proc.devRef .tc Cert.KernelIdeal.main_v0) ix0
      = Cert.ReferenceIdeal.Host.final m' c Cert.ReferenceIdeal.main_v52 ix0 := by
  obtain ⟨r, hr, hv⟩ := Cert.ReferenceIdeal.Host.value m' c x hx' n hy'
  have h1 : ∀ i : Fin 1024, Cert.KernelIdeal.Whole.W2 m ρ c (Proc.devRef .tc Cert.KernelIdeal.main_call0_v1_0) (ix2 i 0) = logp x i (n i) := by
    intro i
    rw [Cert.KernelIdeal.Whole.first_col, hx, hy i]
    exact chosen_eq x i (n i)
  have h2 : ∀ i : Fin 1024, Cert.KernelIdeal.Whole.W2 m ρ c (Proc.devRef .tc Cert.KernelIdeal.main_call0_v1_1) (ix2 i 0) = logp x i (r i) := by
    intro i
    rw [Cert.KernelIdeal.Whole.second_col, hx]
    exact sampled_eq x wordsArr i (r i) (hr i)
  rw [hv, Cert.KernelIdeal.Whole.value, Cert.KernelIdeal.Whole.loss_apply]
  simp only [h1, h2]
  exact Cert.Loss.total (fun i => logp x i (n i)) (fun i => Cert.KernelIdeal.Whole.kodds (logp x i (n i)) (logp x i (r i)))
    (fun i => rodds (logp x i (n i)) (logp x i (r i))) fun i => odds_eq _ _

end Cert.Link

end

end
-- ==== Proof.Link.Labels.lean ====
module

public import proofs.«01_k».proof.Pre_in_range
public import Idealize.ShloMosaic.Lib.ReduceAll
public import Idealize.ShloMosaic.Lib.Affine
public import Idealize.ShloMosaic.Lib.Pointwise
public import Idealize.ShloMosaic.PureOps.Ideal.Laws

@[expose] public section

/-! # The precondition: every label is a column -/

namespace Cert.Link

open Idealize.ShloMosaic Idealize.ShloMosaic.Pointwise

/-- The shape relations the precondition's lines state. -/
theorem preFacts : Cert.Pre_in_range.Facts where
  bcast_S_S1024 := by decide
  reducesTo_S1024_S_d0 := by decide
  h_S_ := by decide

/-- A word that is at least 0 and less than 100000, as signed numbers, is one of the column numbers. -/
theorem column_of (q : BitVec 32) (h0 : 0 ≤ q.toInt) (h1 : q.toInt < 100000) :
    ∃ n : Fin 100000, q = BitVec.ofNat 32 n.val := by
  have h2 := BitVec.toInt_eq_toNat_cond q
  have h3 := q.isLt
  have h4 : q.toNat < 100000 := by
    split at h2 <;> omega
  exact ⟨⟨q.toNat, h4⟩, by simp⟩

/-- Under the precondition every label is a column number. -/
theorem label [Cert.Pre_in_range.Facts] (x : FVec Ideal Cert.Pre_in_range.S1024x100000 .f32) (y : IVec Cert.Pre_in_range.S1024 32)
    (h : Cert.Pre_in_range.fn (F := Ideal) x y = fun _ => 1#1) (i : Fin 1024) :
    ∃ n : Fin 100000, y (ix1 i) = BitVec.ofNat 32 n.val := by
  unfold Cert.Pre_in_range.fn at h
  have : Subsingleton Cert.Pre_in_range.S_.Idx := ⟨fun a b => funext fun d => d.elim0⟩
  have h1 := Host.reduce_andi_all _ _ _ _ ix0 (congrFun h ix0) (ix1 i)
  have h2 : IntOp.andi (IntOp.cmpi .sge (y (ix1 i)) 0#32) (IntOp.cmpi .slt (y (ix1 i)) 100000#32) = 1#1 := h1
  have h3 := IntOp.andi_eq_one.1 h2
  exact column_of _ (IntOp.cmpi_sge.1 h3.1) (IntOp.cmpi_slt.1 h3.2)

end Cert.Link

end
-- ==== Proof.lean ====
/-
  The proof of `Cert.Claim`: the sampled-preference loss of `x` f32[1024, 100000] and `y` i32[1024].

  The kernel's first call reads `x` in blocks of 32 rows through a ring of two buffers, and for every row leaves the
  log-probability of the label and the log-probability of a sampled column; its second call takes the loss of the two
  columns. `Proof/Kernel` and `Proof/KernelIdeal` run it, `Proof/KernelIdeal/Value.lean` reads what it leaves;
  `Proof/ReferenceIdeal` does the same for the reference; `Proof/Math` has the equations between extended reals and
  `Proof/Link` puts the two programs side by side.
-/
module

public import proofs.«01_k».proof.Defs
public import proofs.«01_k».proof.Proof.Kernel.Run
public import proofs.«01_k».proof.Proof.Link.Loss
public import proofs.«01_k».proof.Proof.Link.Labels

@[expose] public section

noncomputable section

namespace Cert.Proof

open Idealize.ShloMosaic Idealize.ShloMosaic.TcCoe Idealize.SL.Sem
open Idealize.ShloMosaic.Pointwise

/-- The constant the kernel multiplies by is, idealized, the exact reciprocal of the temperature. -/
theorem preserves : Cert.preserves_Kernel_KernelIdeal :=
  IdealRules.named_const.statement Cert.KernelIdeal.κ "inv_temp" .f32 0x3FB6DB6E#32 ((16777216 / 11744051 : ℝ) : EReal) rfl

/-- With every label a column number, the idealized kernel and the idealized reference end with the same loss. -/
theorem algebraic : Cert.algebraic_KernelIdeal_ReferenceIdeal_pre_in_range (hKernelIdeal := Cert.KernelIdeal.Gen.facts)
    (hReferenceIdeal := Cert.ReferenceIdeal.Gen.facts) (hPre_in_range := Cert.Link.preFacts) := by
  intro m g m' g' hpre hargs
  refine ⟨fun c => Cert.KernelIdeal.Whole.W4 m g c (Proc.devRef .tc Cert.KernelIdeal.main_v0),
    Cert.KernelIdeal.Whole.run_result m g,
    (θ_run _ _ _).mono (fun r h c => ⟨(h c).1.trans ?_, (h c).2⟩) (Cert.ReferenceIdeal.Host.run_result m' g')⟩
  choose n hn using @Cert.Link.label Cert.Link.preFacts _ _ (hpre c)
  funext j
  obtain rfl : j = ix0 := funext fun d => d.elim0
  exact (Cert.Link.loss_eq m g m' c _ rfl (hargs c).1 n hn fun i => (congrFun (hargs c).2 (ix1 i)).trans (hn i)).symm

/-- Every claim of the certificate. -/
theorem claim : Cert.Claim :=
  ⟨Cert.Kernel.Gen.facts, Cert.KernelIdeal.Gen.facts, Cert.ReferenceIdeal.Gen.facts, Cert.Link.preFacts,
    fun m g _ => Cert.Kernel.Whole.frame m g,
    fun m g _ => Cert.KernelIdeal.Whole.frame m g,
    fun m g _ => Cert.KernelIdeal.Whole.frame m g,
    fun m g _ => Cert.ReferenceIdeal.Host.frame m g,
    fun m g _ => Cert.ReferenceIdeal.Host.frame m g,
    preserves, algebraic⟩

end Cert.Proof

end
